-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_in_range_KernelIdeal [hPre_in_range_KernelIdeal : Cert.Pre_in_range_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_in_range_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range_ReferenceIdeal [hPre_in_range_ReferenceIdeal : Cert.Pre_in_range_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_in_range_KernelIdeal [hKernelIdeal : Cert.KernelIdeal.Facts] [hPre_in_range_KernelIdeal : Cert.Pre_in_range_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_in_range_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_in_range_ReferenceIdeal [hReferenceIdeal : Cert.ReferenceIdeal.Facts] [hPre_in_range_ReferenceIdeal : Cert.Pre_in_range_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_in_range_KernelIdeal [hKernelIdeal : Cert.KernelIdeal.Facts] [hReferenceIdeal : Cert.ReferenceIdeal.Facts] [hPre_in_range_KernelIdeal : Cert.Pre_in_range_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_in_range_KernelIdeal m →
    (∀ c : Dev Cert.KernelIdeal.nD,
      m ((c.tc : Thread Cert.KernelIdeal.nD Cert.KernelIdeal.τ).loc Cert.KernelIdeal.main_arg0) = Layout.block ⟨2, ![2048, 256]⟩ ⟨2, ![8192, 256]⟩ 0 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v6) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_in_range_KernelIdeal : Cert.Pre_in_range_KernelIdeal.Facts) (hPre_in_range_ReferenceIdeal : Cert.Pre_in_range_ReferenceIdeal.Facts),
    quiescent_Kernel (hKernel := hKernel)
    ∧ quiescent_KernelIdeal (hKernelIdeal := hKernelIdeal)
    ∧ quiescent_KernelIdeal_pre_in_range_KernelIdeal (hKernelIdeal := hKernelIdeal) (hPre_in_range_KernelIdeal := hPre_in_range_KernelIdeal)
    ∧ quiescent_ReferenceIdeal (hReferenceIdeal := hReferenceIdeal)
    ∧ quiescent_ReferenceIdeal_pre_in_range_ReferenceIdeal (hReferenceIdeal := hReferenceIdeal) (hPre_in_range_ReferenceIdeal := hPre_in_range_ReferenceIdeal)
    ∧ preserves_Kernel_KernelIdeal
    ∧ algebraic_KernelIdeal_ReferenceIdeal_pre_in_range_KernelIdeal (hKernelIdeal := hKernelIdeal) (hReferenceIdeal := hReferenceIdeal) (hPre_in_range_KernelIdeal := hPre_in_range_KernelIdeal)
-- ==== Pre_in_range_KernelIdeal.lean ====
abbrev S2048x256 : Shape := ⟨2, ![2048, 256]⟩
abbrev S512 : Shape := ⟨1, ![512]⟩
abbrev S_ : Shape := ⟨0, ![]⟩

class Facts : Prop where
  bcast_S_S512 : S_.BroadcastsInDim S512 (![] : Fin 0 → Fin S512.rank)

variable [Facts]

def fn {F : FTy → Type} [FloatOps F] (main_arg0 : FVec F S2048x256 .bf16) (main_arg1 : IVec S512 32) : IVec S512 1 :=
  let main_c : IVec S_ 32 := constantI S_ 32 0#32
  let main_v0 : IVec S512 32 := broadcastInDim S512 ![] bcast_S_S512 main_c
  let main_v1 : IVec S512 1 := cmpi .sge main_arg1 main_v0
  let main_c_0 : IVec S_ 32 := constantI S_ 32 8192#32
  let main_v2 : IVec S512 32 := broadcastInDim S512 ![] bcast_S_S512 main_c_0
  let main_v3 : IVec S512 1 := cmpi .slt main_arg1 main_v2
  let main_v4 : IVec S512 1 := andi main_v1 main_v3
  main_v4
-- ==== Pre_in_range_ReferenceIdeal.lean ====
abbrev S8192x256 : Shape := ⟨2, ![8192, 256]⟩
abbrev S512 : Shape := ⟨1, ![512]⟩
abbrev S_ : Shape := ⟨0, ![]⟩

class Facts : Prop where
  bcast_S_S512 : S_.BroadcastsInDim S512 (![] : Fin 0 → Fin S512.rank)

variable [Facts]

def fn {F : FTy → Type} [FloatOps F] (main_arg0 : FVec F S8192x256 .bf16) (main_arg1 : IVec S512 32) : IVec S512 1 :=
  let main_c : IVec S_ 32 := constantI S_ 32 0#32
  let main_v0 : IVec S512 32 := broadcastInDim S512 ![] bcast_S_S512 main_c
  let main_v1 : IVec S512 1 := cmpi .sge main_arg1 main_v0
  let main_c_0 : IVec S_ 32 := constantI S_ 32 8192#32
  let main_v2 : IVec S512 32 := broadcastInDim S512 ![] bcast_S_S512 main_c_0
  let main_v3 : IVec S512 1 := cmpi .slt main_arg1 main_v2
  let main_v4 : IVec S512 1 := andi main_v1 main_v3
  main_v4
-- ==== Kernel.lean ====
abbrev S2048x256 : Shape := ⟨2, ![2048, 256]⟩
abbrev S512 : Shape := ⟨1, ![512]⟩
abbrev S512x256 : Shape := ⟨2, ![512, 256]⟩
abbrev S4x512x256 : Shape := ⟨3, ![4, 512, 256]⟩
abbrev S2x4 : Shape := ⟨2, ![2, 4]⟩
abbrev S_ : Shape := ⟨0, ![]⟩
abbrev S1x512 : Shape := ⟨2, ![1, 512]⟩
abbrev S2048x128 : Shape := ⟨2, ![2048, 128]⟩
abbrev S1x128 : Shape := ⟨2, ![1, 128]⟩
abbrev S128x256 : Shape := ⟨2, ![128, 256]⟩
abbrev S1x128x256 : Shape := ⟨3, ![1, 128, 256]⟩
abbrev S1x1 : Shape := ⟨2, ![1, 1]⟩

abbrev nBuf : Space → Nat
  | .hbm => 3
  | .vmem => 4
  | .smem => 0
  | _ => 0

abbrev bufTy : (tb : Table) → Fin (tcTables nBuf tb) → BufTy
  | .hbm, ⟨0, _⟩ => ⟨S2048x256, .bf16⟩
  | .hbm, ⟨1, _⟩ => ⟨S512, .i32⟩
  | .hbm, ⟨2, _⟩ => ⟨S512x256, .bf16⟩
  | .local _ .vmem, ⟨0, _⟩ => ⟨S2048x256, .bf16⟩
  | .local _ .vmem, ⟨1, _⟩ => ⟨S512, .i32⟩
  | .local _ .vmem, ⟨2, _⟩ => ⟨S512x256, .bf16⟩
  | .local _ .vmem, ⟨3, _⟩ => ⟨S4x512x256, .bf16⟩
  | _, _ => ⟨S2048x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 1 → Bool
  | ⟨0, _⟩ => false
  | _ => false

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  (ofTc nBuf bufTy 1 19 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_sem0_0 : DmaSem sig := 0
abbrev cc0_sem1_0 : DmaSem sig := 1
abbrev cc0_sem2_0 : DmaSem sig := 2
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.xori v2 c1_i32_0
  let c1_i32_2 : BitVec 32 := 1#32
  let v6 : BitVec 32 := Scalar.muli v3 c1_i32_2
  let v7 : BitVec 32 := Scalar.addi c0_i32 v6
  v7.toNat
def k0_dev2 (d0 : Dev nD) : Nat :=
  let c0_i32_5 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v4 : BitVec 32 := Scalar.subi c3_i32 v2
  let c1_i32_4 : BitVec 32 := 1#32
  let v8 : BitVec 32 := Scalar.muli v4 c1_i32_4
  let v9 : BitVec 32 := Scalar.addi c0_i32_5 v8
  v9.toNat
def k0_dev3 (d0 : Dev nD) : Nat :=
  let c0_i32_18 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.xori v2 c1_i32_0
  let c1_i32_17 : BitVec 32 := 1#32
  let v30 : BitVec 32 := Scalar.muli v3 c1_i32_17
  let v31 : BitVec 32 := Scalar.addi c0_i32_18 v30
  v31.toNat
def k0_dev4 (d0 : Dev nD) : Nat :=
  let c0_i32_33 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.xori v2 c1_i32_0
  let c1_i32_32 : BitVec 32 := 1#32
  let v52 : BitVec 32 := Scalar.muli v3 c1_i32_32
  let v53 : BitVec 32 := Scalar.addi c0_i32_33 v52
  v53.toNat
def k0_dev5 (d0 : Dev nD) : Nat :=
  let c0_i32_47 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.xori v2 c1_i32_0
  let c1_i32_46 : BitVec 32 := 1#32
  let v74 : BitVec 32 := Scalar.muli v3 c1_i32_46
  let v75 : BitVec 32 := Scalar.addi c0_i32_47 v74
  v75.toNat
def k0_dev6 (d0 : Dev nD) : Nat :=
  let c0_i32_61 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.xori v2 c1_i32_0
  let c1_i32_60 : BitVec 32 := 1#32
  let v96 : BitVec 32 := Scalar.muli v3 c1_i32_60
  let v97 : BitVec 32 := Scalar.addi c0_i32_61 v96
  v97.toNat
def k0_dev7 (d0 : Dev nD) : Nat :=
  let c0_i32_91 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v4 : BitVec 32 := Scalar.subi c3_i32 v2
  let c1_i32_90 : BitVec 32 := 1#32
  let v122 : BitVec 32 := Scalar.muli v4 c1_i32_90
  let v123 : BitVec 32 := Scalar.addi c0_i32_91 v122
  v123.toNat
def k0_dev8 (d0 : Dev nD) : Nat :=
  let c0_i32_124 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v4 : BitVec 32 := Scalar.subi c3_i32 v2
  let c1_i32_123 : BitVec 32 := 1#32
  let v148 : BitVec 32 := Scalar.muli v4 c1_i32_123
  let v149 : BitVec 32 := Scalar.addi c0_i32_124 v148
  v149.toNat
def k0_dev9 (d0 : Dev nD) : Nat :=
  let c0_i32_157 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v4 : BitVec 32 := Scalar.subi c3_i32 v2
  let c1_i32_156 : BitVec 32 := 1#32
  let v174 : BitVec 32 := Scalar.muli v4 c1_i32_156
  let v175 : BitVec 32 := Scalar.addi c0_i32_157 v174
  v175.toNat
def k0_dev10 (d0 : Dev nD) : Nat :=
  let c0_i32_190 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v4 : BitVec 32 := Scalar.subi c3_i32 v2
  let c1_i32_189 : BitVec 32 := 1#32
  let v200 : BitVec 32 := Scalar.muli v4 c1_i32_189
  let v201 : BitVec 32 := Scalar.addi c0_i32_190 v200
  v201.toNat
abbrev stage0_0 : Fin 1 → Memref sig .tc .vmem S2048x256 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S512x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S8192x256 : Shape := ⟨2, ![8192, 256]⟩
abbrev S512 : Shape := ⟨1, ![512]⟩
abbrev S_ : Shape := ⟨0, ![]⟩
abbrev S512x1 : Shape := ⟨2, ![512, 1]⟩
abbrev S512x256 : Shape := ⟨2, ![512, 256]⟩

abbrev nBuf : Space → Nat
  | .hbm => 11
  | .vmem => 0
  | .smem => 0
  | _ => 0

abbrev bufTy : (tb : Table) → Fin (tcTables nBuf tb) → BufTy
  | .hbm, ⟨0, _⟩ => ⟨S8192x256, .bf16⟩
  | .hbm, ⟨1, _⟩ => ⟨S512, .i32⟩
  | .hbm, ⟨2, _⟩ => ⟨S_, .i32⟩
  | .hbm, ⟨3, _⟩ => ⟨S512, .i32⟩
  | .hbm, ⟨4, _⟩ => ⟨S512, .i1⟩
  | .hbm, ⟨5, _⟩ => ⟨S_, .i32⟩
  | .hbm, ⟨6, _⟩ => ⟨S512, .i32⟩
  | .hbm, ⟨7, _⟩ => ⟨S512, .i32⟩
  | .hbm, ⟨8, _⟩ => ⟨S512, .i32⟩
  | .hbm, ⟨9, _⟩ => ⟨S512x1, .i32⟩
  | .hbm, ⟨10, _⟩ => ⟨S512x256, .bf16⟩
  | _, _ => ⟨S8192x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_v0 : Ref sig .tc := ⟨.hbm, 3, rfl⟩
abbrev main_v1 : Ref sig .tc := ⟨.hbm, 4, rfl⟩
abbrev main_c_0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]
-- ==== Proof.Contents.lean ====
/-
# What the exchange computes, buffer by buffer

The kernel runs on four devices. Each holds 2048 rows of an 8192-row table and the same 512 indices. A device
multiplies a one-hot matrix of the indices with its own rows, which gives a partial answer: the requested row where
the device holds it, and zero elsewhere. Two pairwise exchanges, first with `pt 0 c` and then with `pt 1 c`, add the
four partial answers up on every device. All of it is done in four chunks of 128 indices.

The communication buffer has four slots of four chunks each. Slot 0 holds the device's partial answer, slot 1 the
partial answer of its first partner, slot 2 the sum of the two, slot 3 the sum its second partner made. This module
names these contents (`val`), lays them out in one buffer (`comm`, and `outAt` for the result), and proves what a
load, a store and a transfer of one chunk do to them. It holds at any float values.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.ValueIdx

@[expose] public section

noncomputable section

namespace Cert.Exchange

open Cert.KernelIdeal Cert.KernelIdeal.Gen
open Idealize.ShloMosaic
open Idealize.ShloMosaic.TcCoe
open Idealize.ShloMosaic.ValueIdx

variable {F : FTy → Type} [FloatOps F]

/-! ## The partners -/

/-- The partner of device `c` in exchange `e`: `c` with its low bit flipped, then `3 - c`. -/
def pt : Fin 2 → Fin 4 → Fin 4 :=
  ![![1, 0, 3, 2], ![3, 2, 1, 0]]

theorem pt_pt (e : Fin 2) (c : Dev nD) : pt e (pt e c) = c := by revert e c; decide
theorem pt_comm (c : Dev nD) : pt 0 (pt 1 c) = pt 1 (pt 0 c) := by revert c; decide
theorem pt_eq_iff (e : Fin 2) (c d : Dev nD) : c = pt e d ↔ d = pt e c := by revert e c d; decide

theorem dev1_eq (c : Dev nD) : (⟨k0_dev1 c, k0_dev1_lt c⟩ : Dev nD) = pt 0 c := by revert c; decide
theorem dev2_eq (c : Dev nD) : (⟨k0_dev2 c, k0_dev2_lt c⟩ : Dev nD) = pt 1 c := by revert c; decide
theorem dev3_eq (c : Dev nD) : (⟨k0_dev3 c, k0_dev3_lt c⟩ : Dev nD) = pt 0 c := by revert c; decide
theorem dev4_eq (c : Dev nD) : (⟨k0_dev4 c, k0_dev4_lt c⟩ : Dev nD) = pt 0 c := by revert c; decide
theorem dev5_eq (c : Dev nD) : (⟨k0_dev5 c, k0_dev5_lt c⟩ : Dev nD) = pt 0 c := by revert c; decide
theorem dev6_eq (c : Dev nD) : (⟨k0_dev6 c, k0_dev6_lt c⟩ : Dev nD) = pt 0 c := by revert c; decide
theorem dev7_eq (c : Dev nD) : (⟨k0_dev7 c, k0_dev7_lt c⟩ : Dev nD) = pt 1 c := by revert c; decide
theorem dev8_eq (c : Dev nD) : (⟨k0_dev8 c, k0_dev8_lt c⟩ : Dev nD) = pt 1 c := by revert c; decide
theorem dev9_eq (c : Dev nD) : (⟨k0_dev9 c, k0_dev9_lt c⟩ : Dev nD) = pt 1 c := by revert c; decide
theorem dev10_eq (c : Dev nD) : (⟨k0_dev10 c, k0_dev10_lt c⟩ : Dev nD) = pt 1 c := by revert c; decide

/-! ## The chunks of the communication buffer -/

theorem inb (s k : Fin 4) : ∀ a, (![s.val, 128 * k.val, 0] : Fin 3 → Nat) a + S1x128x256.size a ≤ S4x512x256.size a := by
  revert s k; decide

/-- Chunk `k` of slot `s`, as a rectangle of the communication buffer. -/
abbrev rct (s k : Fin 4) : Rect S4x512x256 := Rect.unit (s := S4x512x256) ![s.val, 128 * k.val, 0] S1x128x256.size (inb s k)

/-- The communication buffer, and chunk `k` of its slot `s` as a transfer names it. -/
abbrev cM : Memref sig .tc .vmem S4x512x256 .bf16 := Memref.whole cc0_scratch0
abbrev chM (s k : Fin 4) : Memref sig .tc .vmem S128x256 .bf16 :=
  (cM.slice (rct s k) (fun _ => rfl)).squeeze S128x256 squeezes_S1x128x256_S128x256

/-- An element is in chunk `k` of slot `s` exactly when its first coordinate is `s` and its second is in the `k`-th 128. -/
theorem mem_rct (s k : Fin 4) (i : S4x512x256.Idx) : i ∈ (rct s k).set ↔ (i 0).val = s.val ∧ (i 1).val / 128 = k.val := by
  rw [Rect.mem_set_unit]
  have h1 : (i 1).val < 512 := (i 1).isLt
  have h2 : (i 2).val < 256 := (i 2).isLt
  constructor
  · intro h
    have a0 : s.val ≤ (i 0).val ∧ (i 0).val < s.val + 1 := h 0
    have a1 : 128 * k.val ≤ (i 1).val ∧ (i 1).val < 128 * k.val + 128 := h 1
    exact ⟨by omega, by omega⟩
  · rintro ⟨h0, h1'⟩ a
    match a with
    | ⟨0, _⟩ => show s.val ≤ (i 0).val ∧ (i 0).val < s.val + 1; omega
    | ⟨1, _⟩ => show 128 * k.val ≤ (i 1).val ∧ (i 1).val < 128 * k.val + 128; omega
    | ⟨2, _⟩ => show 0 ≤ (i 2).val ∧ (i 2).val < 0 + 256; omega

theorem rct_disjoint {p q : Fin 4 × Fin 4} (h : p ≠ q) : Disjoint (rct p.1 p.2).set (rct q.1 q.2).set := by
  rw [Finset.disjoint_left]
  intro i hp hq
  rw [mem_rct] at hp hq
  exact h (Prod.ext (Fin.ext (hp.1.symm.trans hq.1)) (Fin.ext (hp.2.symm.trans hq.2)))

theorem rct_cover : (Finset.univ : Finset (Fin 4 × Fin 4)).biUnion (fun p => (rct p.1 p.2).set) = (Finset.univ : Finset S4x512x256.Idx) := by
  refine Finset.eq_univ_of_forall fun i => Finset.mem_biUnion.mpr ?_
  have h1 : (i 1).val < 512 := (i 1).isLt
  exact ⟨(⟨(i 0).val, (i 0).isLt⟩, ⟨(i 1).val / 128, by omega⟩), Finset.mem_univ _, (mem_rct _ _ i).mpr ⟨rfl, rfl⟩⟩

/-! ## The contents -/

section Values

variable (tbl : Dev nD → Vec F S2048x256 .bf16) (ids : Dev nD → Vec F S512 .i32)

/-- Device `c`'s partial answer for chunk `k`: its one-hot matrix for these 128 indices times its rows of the table. -/
def part (c : Dev nD) (k : Fin 4) : FVec F S1x128x256 .bf16 :=
  match k with
  | 0 => k0_pay3 c (tbl c) (ids c)
  | 1 => k0_pay4 (k0_pay1 (tbl c)) (k0_pay2 (F := F) c (ids c))
  | 2 => k0_pay6 (k0_pay1 (tbl c)) (iota .tc S2048x128 32 [0] iota_S2048x128_d0_w32) (k0_pay5 (k0_pay2 (F := F) c (ids c)))
  | 3 => k0_pay7 (k0_pay1 (tbl c)) (k0_pay2 (F := F) c (ids c))

/-- The sum of two partial answers for one chunk. -/
def add3 (x y : FVec F S1x128x256 .bf16) : FVec F S1x128x256 .bf16 := k0_pay8 x y

/-- What chunk `k` of slot `s` of device `c`'s communication buffer holds once it is written. -/
def val (c : Dev nD) (s k : Fin 4) : FVec F S1x128x256 .bf16 :=
  match s with
  | 0 => part tbl ids c k
  | 1 => part tbl ids (pt 0 c) k
  | 2 => add3 (part tbl ids c k) (part tbl ids (pt 0 c) k)
  | 3 => add3 (part tbl ids (pt 1 c) k) (part tbl ids (pt 0 (pt 1 c)) k)

/-- Chunk `k` of device `c`'s result: the sum of its slots 2 and 3. -/
def outv (c : Dev nD) (k : Fin 4) : FVec F S128x256 .bf16 := k0_pay13 (val tbl ids c 2 k) (val tbl ids c 3 k)

/-- Device `c`'s whole communication buffer at the end. -/
def comm (c : Dev nD) : (cc0_scratch0 : Ref sig .tc).ty.Contents (Elt F) := fun i =>
  val tbl ids c ⟨(i 0).val, (i 0).isLt⟩ ⟨(i 1).val / 128, by have h : (i 1).val < 512 := (i 1).isLt; omega⟩
    (ix3 (0 : Fin 1) (⟨(i 1).val % 128, Nat.mod_lt _ (by decide)⟩ : Fin 128) (⟨(i 2).val, (i 2).isLt⟩ : Fin 256))

/-- Device `c`'s result. -/
def outAt (c : Dev nD) : (cc0_stg2_0 : Ref sig .tc).ty.Contents (Elt F) := fun i =>
  outv tbl ids c ⟨(i 0).val / 128, by have h : (i 0).val < 512 := (i 0).isLt; omega⟩
    (ix2 (⟨(i 0).val % 128, Nat.mod_lt _ (by decide)⟩ : Fin 128) (⟨(i 1).val, (i 1).isLt⟩ : Fin 256))

/-- The source slot and the destination slot of exchange `e`. -/
def so (e : Fin 2) : Fin 4 := match e with | 0 => 0 | 1 => 2
def de (e : Fin 2) : Fin 4 := match e with | 0 => 1 | 1 => 3

/-- What lands in a destination slot is what the partner's source slot holds. -/
theorem val_land (c : Dev nD) (e : Fin 2) (k : Fin 4) : val tbl ids c (de e) k = val tbl ids (pt e c) (so e) k := by
  match e with
  | 0 => rfl
  | 1 => rfl

/-- The buffer read at an element of chunk `k` of slot `s`. -/
theorem comm_emb (c : Dev nD) (s k : Fin 4) (j : S1x128x256.Idx) : comm tbl ids c ((rct s k).emb j) = val tbl ids c s k j := by
  have h0 : (j 0).val < 1 := (j 0).isLt
  have h1 : (j 1).val < 128 := (j 1).isLt
  have e0 : ((rct s k).emb j 0).val = s.val := by
    show s.val + 1 * (j 0).val = s.val; omega
  have e1 : ((rct s k).emb j 1).val = 128 * k.val + (j 1).val := by
    show 128 * k.val + 1 * (j 1).val = _; omega
  have e2 : ((rct s k).emb j 2).val = (j 2).val := by
    show 0 + 1 * (j 2).val = _; omega
  unfold comm
  have a : (⟨((rct s k).emb j 0).val, ((rct s k).emb j 0).isLt⟩ : Fin 4) = s := Fin.ext e0
  have b : ∀ h, (⟨((rct s k).emb j 1).val / 128, h⟩ : Fin 4) = k := fun h => Fin.ext (by show _ / 128 = _; rw [e1]; omega)
  have d : ix3 (0 : Fin 1) (⟨((rct s k).emb j 1).val % 128, Nat.mod_lt _ (by decide)⟩ : Fin 128) (⟨((rct s k).emb j 2).val, ((rct s k).emb j 2).isLt⟩ : Fin 256) = j := by
    funext x
    match x with
    | ⟨0, _⟩ => exact Fin.ext (by show 0 = (j 0).val; omega)
    | ⟨1, _⟩ => exact Fin.ext (by show _ % 128 = (j 1).val; rw [e1]; omega)
    | ⟨2, _⟩ => exact Fin.ext e2
  rw [b]
  exact congr (congrArg (fun s' => val tbl ids c s' k) a) d

/-- A load of chunk `k` of slot `s`. -/
theorem comm_read (c : Dev nD) (s k : Fin 4) : (cM.access (rct s k)).read (Elt F) (comm tbl ids c) = val tbl ids c s k :=
  funext fun j => comm_emb tbl ids c s k j

/-- A store into chunk `k` of slot `s` of its value: the chunk then holds what `comm` says. -/
theorem comm_write (c : Dev nD) (s k : Fin 4) (f : (cc0_scratch0 : Ref sig .tc).ty.Contents (Elt F)) (i : S4x512x256.Idx)
    (hi : i ∈ (rct s k).set) :
    (cM.access (rct s k)).write (Elt F) f (val tbl ids c s k) Finset.univ i = comm tbl ids c i := by
  rw [← Rect.map_emb_univ, Finset.mem_map] at hi
  obtain ⟨j, -, rfl⟩ := hi
  exact ((cM.access (rct s k)).write_emb_of_mem (Val := Elt F) f (val tbl ids c s k) (Finset.mem_univ j)).trans (comm_emb tbl ids c s k j).symm

theorem set_access (s k : Fin 4) : (cM.access (rct s k)).set = (rct s k).set := View.set_slice_whole _ _
theorem set_chunk (s k : Fin 4) : (chM s k).view.set = (rct s k).set := (View.set_reshape _ _).trans (View.set_slice_whole _ _)

/-- Exchange `e`'s transfer of chunk `k` from its partner: the destination chunk then holds what `comm` says. -/
theorem comm_land (c : Dev nD) (e : Fin 2) (k : Fin 4) (f : (cc0_scratch0 : Ref sig .tc).ty.Contents (Elt F)) (i : S4x512x256.Idx)
    (hi : i ∈ (chM (de e) k).view.set) :
    (chM (de e) k).view.write (Elt F) f ((chM (so e) k).view.read (Elt F) (comm tbl ids (pt e c))) Finset.univ i = comm tbl ids c i := by
  rw [← (chM (de e) k).view.setOn_univ, View.setOn, Finset.mem_map] at hi
  obtain ⟨x, -, rfl⟩ := hi
  refine ((chM (de e) k).view.write_emb_of_mem (Val := Elt F) f _ (Finset.mem_univ x)).trans ?_
  refine ((comm_emb tbl ids (pt e c) (so e) k _).trans ?_).trans (comm_emb tbl ids c (de e) k _).symm
  rw [val_land]

/-! ## The result buffer -/

theorem inbO (k : Fin 4) : ∀ a, (![128 * k.val, 0] : Fin 2 → Nat) a + S128x256.size a ≤ S512x256.size a := by
  revert k; decide

/-- The rows of the result chunk `k` covers, and the result buffer. -/
abbrev orct (k : Fin 4) : Rect S512x256 := Rect.unit (s := S512x256) ![128 * k.val, 0] S128x256.size (inbO k)
abbrev oM : Memref sig .tc .vmem S512x256 .bf16 := Memref.whole cc0_stg2_0

/-- The result buffer after chunk `k` is stored over contents `f`. -/
def putO (c : Dev nD) (k : Fin 4) (f : (cc0_stg2_0 : Ref sig .tc).ty.Contents (Elt F)) : (cc0_stg2_0 : Ref sig .tc).ty.Contents (Elt F) :=
  (oM.access (orct k)).write (Elt F) f (outv tbl ids c k) Finset.univ

theorem mem_orct (k : Fin 4) (i : S512x256.Idx) : i ∈ (orct k).set ↔ (i 0).val / 128 = k.val := by
  rw [Rect.mem_set_unit]
  have h0 : (i 0).val < 512 := (i 0).isLt
  have h1 : (i 1).val < 256 := (i 1).isLt
  constructor
  · intro h
    have a0 : 128 * k.val ≤ (i 0).val ∧ (i 0).val < 128 * k.val + 128 := h 0
    omega
  · intro h a
    match a with
    | ⟨0, _⟩ => show 128 * k.val ≤ (i 0).val ∧ (i 0).val < 128 * k.val + 128; omega
    | ⟨1, _⟩ => show 0 ≤ (i 1).val ∧ (i 1).val < 0 + 256; omega

theorem putO_in (c : Dev nD) (k : Fin 4) (f : (cc0_stg2_0 : Ref sig .tc).ty.Contents (Elt F)) (i : S512x256.Idx) (hi : (i 0).val / 128 = k.val) :
    putO tbl ids c k f i = outAt tbl ids c i := by
  have hi' := (mem_orct k i).mpr hi
  rw [← Rect.map_emb_univ, Finset.mem_map] at hi'
  obtain ⟨j, -, rfl⟩ := hi'
  refine ((oM.access (orct k)).write_emb_of_mem (Val := Elt F) f (outv tbl ids c k) (Finset.mem_univ j)).trans ?_
  have h0 : (j 0).val < 128 := (j 0).isLt
  have e0 : ((orct k).emb j 0).val = 128 * k.val + (j 0).val := by
    show 128 * k.val + 1 * (j 0).val = _; omega
  have e1 : ((orct k).emb j 1).val = (j 1).val := by
    show 0 + 1 * (j 1).val = _; omega
  unfold outAt
  have b : ∀ h, (⟨((orct k).emb j 0).val / 128, h⟩ : Fin 4) = k := fun h => Fin.ext (by show _ / 128 = _; rw [e0]; omega)
  have d : ix2 (⟨((orct k).emb j 0).val % 128, Nat.mod_lt _ (by decide)⟩ : Fin 128) (⟨((orct k).emb j 1).val, ((orct k).emb j 1).isLt⟩ : Fin 256) = j := by
    funext x
    match x with
    | ⟨0, _⟩ => exact Fin.ext (by show _ % 128 = (j 0).val; rw [e0]; omega)
    | ⟨1, _⟩ => exact Fin.ext e1
  rw [b]
  exact (congrArg (outv tbl ids c k) d).symm

theorem putO_out (c : Dev nD) (k : Fin 4) (f : (cc0_stg2_0 : Ref sig .tc).ty.Contents (Elt F)) (i : S512x256.Idx) (hi : (i 0).val / 128 ≠ k.val) :
    putO tbl ids c k f i = f i := by
  refine View.write_of_not_mem _ _ _ fun h => hi ?_
  rw [View.setOn_univ] at h
  rw [← mem_orct]
  rwa [View.set_slice_whole] at h

/-- The four chunks stored in order make the whole result, over any contents. -/
theorem putO_all (c : Dev nD) (f : (cc0_stg2_0 : Ref sig .tc).ty.Contents (Elt F)) :
    putO tbl ids c 3 (putO tbl ids c 2 (putO tbl ids c 1 (putO tbl ids c 0 f))) = outAt tbl ids c := by
  funext i
  have h0 : (i 0).val < 512 := (i 0).isLt
  rcases (by omega : (i 0).val / 128 = 0 ∨ (i 0).val / 128 = 1 ∨ (i 0).val / 128 = 2 ∨ (i 0).val / 128 = 3) with h | h | h | h
  · rw [putO_out tbl ids c 3 _ i (by rw [h]; decide), putO_out tbl ids c 2 _ i (by rw [h]; decide), putO_out tbl ids c 1 _ i (by rw [h]; decide),
      putO_in tbl ids c 0 _ i h]
  · rw [putO_out tbl ids c 3 _ i (by rw [h]; decide), putO_out tbl ids c 2 _ i (by rw [h]; decide), putO_in tbl ids c 1 _ i h]
  · rw [putO_out tbl ids c 3 _ i (by rw [h]; decide), putO_in tbl ids c 2 _ i h]
  · exact putO_in tbl ids c 3 _ i h

end Values

end Cert.Exchange

end
-- ==== Proof.Protocol.lean ====
/-
# The protocol of the two exchanges

The cells of the protocol are the barrier semaphore of each device and its sixteen transfer semaphores: one send and one
receive semaphore for each chunk of each exchange. Every cell has one round.

* A barrier cell has two duties, one for each partner. Partner `pt e c` pays duty `e` by its signal, and hands over the
  four chunks of its slot that exchange `e` writes.
* A send cell has one duty, paid when the transfer has read its source. It gives back the half share of the source
  chunk the sender lent to the transfer.
* A receive cell has one duty, paid when the transfer lands. It gives the destination chunk, holding what the partner
  sent.

The module fixes this schedule, what each device owes at launch, the levels that rule out a cycle of waits, and what
each device's body starts from and ends with.
-/
module

public import proofs.«01_k».proof.Proof.Contents
public import Idealize.ShloMosaic.Lib.Pipeline.Launch
public import Idealize.ShloMosaic.Lib.Pipeline.Kit
public import Idealize.ShloMosaic.Lib.Tactic

@[expose] public section

noncomputable section

namespace Cert.Exchange

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

abbrev UB : Type := URounds (GSem nD τ sig) (Fin 2)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-! ## The cells -/

/-- The barrier semaphore. -/
abbrev barS : Sem sig := (SemArray.scalar (sig.barrier 0 rfl) : Sems sig S_).sem

/-- The transfer semaphores: (`0` send or `1` receive, exchange, chunk). -/
abbrev J : Type := Fin 2 × Fin 2 × Fin 4

def qsem (j : J) : DmaSem sig := ⟨3 + 8 * j.1.val + 4 * j.2.1.val + j.2.2.val, by
  have := j.1.isLt; have := j.2.1.isLt; have := j.2.2.isLt; show _ < 19; omega⟩

/-- The exchange and the chunk a transfer semaphore serves. -/
def qE (q : DmaSem sig) : Fin 2 := ⟨(q.val - 3) / 4 % 2, Nat.mod_lt _ (by decide)⟩
def qK (q : DmaSem sig) : Fin 4 := ⟨(q.val - 3) % 4, Nat.mod_lt _ (by decide)⟩

theorem qE_qsem (j : J) : qE (qsem j) = j.2.1 := by revert j; decide
theorem qK_qsem (j : J) : qK (qsem j) = j.2.2 := by revert j; decide
theorem qsem_ge (j : J) : ¬ (qsem j).val < 3 := by revert j; decide
theorem qsem_send (e : Fin 2) (k : Fin 4) : (qsem (0, e, k)).val < 11 := by revert e k; decide
theorem qsem_recv (e : Fin 2) (k : Fin 4) : ¬ (qsem (1, e, k)).val < 11 := by revert e k; decide
theorem qsem_injective : Function.Injective qsem := by decide

abbrev osem (j : J) : SemLoc sig := .dma (qsem j)
abbrev csem : Unit ⊕ J → SemLoc sig := fun i => match i with | .inl _ => .reg barS | .inr j => osem j

abbrev barCell (c : Dev nD) : GSem nD τ sig := ((c : Thread nD τ), .reg barS)
abbrev qCell (c : Dev nD) (j : J) : GSem nD τ sig := ((c : Thread nD τ), .dma (qsem j))
abbrev sCell (c : Dev nD) (e : Fin 2) (k : Fin 4) : GSem nD τ sig := qCell c (0, e, k)
abbrev rCell (c : Dev nD) (e : Fin 2) (k : Fin 4) : GSem nD τ sig := qCell c (1, e, k)
abbrev kcell (ci : Dev nD × (Unit ⊕ J)) : GSem nD τ sig := ((ci.1 : Thread nD τ), csem ci.2)

theorem qCell_eq_iff {a b : Dev nD} {i j : J} : qCell a i = qCell b j ↔ a = b ∧ i = j := by
  constructor
  · intro h
    refine ⟨Fin.ext (congrArg (fun g : GSem nD τ sig => g.1.1.val) h), qsem_injective ?_⟩
    have h2 : (SemLoc.dma (qsem i) : SemLoc sig) = .dma (qsem j) := congrArg Prod.snd h
    injection h2
  · rintro ⟨rfl, rfl⟩; rfl
theorem barCell_eq_iff {a b : Dev nD} : barCell a = barCell b ↔ a = b :=
  ⟨fun h => Fin.ext (congrArg (fun g : GSem nD τ sig => g.1.1.val) h), fun h => h ▸ rfl⟩
theorem bar_ne_q (a b : Dev nD) (j : J) : barCell a ≠ qCell b j := fun h => by
  have h2 : (SemLoc.reg barS : SemLoc sig) = .dma (qsem j) := congrArg Prod.snd h
  cases h2

/-- What one chunk's transfer credits a semaphore with. -/
def N : ℕ := (chM 0 0).view.dmaCredit
theorem N_pos : 0 < N := View.dmaCredit_pos _ (by decide)
theorem credit_eq (s k : Fin 4) : (chM s k).view.dmaCredit = N := rfl

/-! ## The chunks as resources -/

/-- Chunk `k` of slot `s` of device `c`, whatever it holds. -/
def slot (c : Dev nD) (s k : Fin 4) : sProp 𝕄 :=
  iprop(∃ f : Buf (Elt F) ((c : Thread nD τ).loc cc0_scratch0), ((c : Thread nD τ).loc cc0_scratch0) ↦[(rct s k).set]{fullShare} f)

section Sched

variable (tbl : Dev nD → Vec F S2048x256 .bf16) (ids : Dev nD → Vec F S512 .i32)

/-- Chunk `k` of slot `s` of device `c`, holding what `comm` says, at share `q`. -/
def pts (c : Dev nD) (s k : Fin 4) (q : PosShare TreeShare) : sProp 𝕄 :=
  ((c : Thread nD τ).loc cc0_scratch0) ↦[(rct s k).set]{q} comm tbl ids c

omit [FloatOps F] in
instance slot_storable (c : Dev nD) (s k : Fin 4) : BI.Storable (upEmb : UEmb _ 𝕄) (slot (F := F) c s k) := by unfold slot; infer_instance
instance pts_storable (c : Dev nD) (s k : Fin 4) (q) : BI.Storable (upEmb : UEmb _ 𝕄) (pts tbl ids c s k q) := by unfold pts; infer_instance

theorem pts_slot (c : Dev nD) (s k : Fin 4) : pts tbl ids c s k fullShare ⊢ slot c s k := by
  unfold pts slot; iintro H; iexists _; iexact H

/-- Partner `pt e c`'s four chunks that exchange `e` writes. -/
def barPay (c : Dev nD) (e : Fin 2) : sProp 𝕄 :=
  iprop(slot (F := F) (pt e c) (de e) 0 ∗ slot (F := F) (pt e c) (de e) 1 ∗ slot (F := F) (pt e c) (de e) 2 ∗ slot (F := F) (pt e c) (de e) 3)

omit [FloatOps F] in
instance barPay_storable (c : Dev nD) (e : Fin 2) : BI.Storable (upEmb : UEmb _ 𝕄) (barPay (F := F) c e) := by unfold barPay; infer_instance

/-- What a transfer semaphore's duty gives: nothing for a staging semaphore, the lent half of the source for a send,
    the landed destination for a receive. -/
def qPay (c : Dev nD) (q : DmaSem sig) : sProp 𝕄 :=
  if q.val < 3 then iprop(emp)
  else if q.val < 11 then pts tbl ids c (so (qE q)) (qK q) fullShare.right
  else pts tbl ids c (de (qE q)) (qK q) fullShare

instance qPay_storable (c : Dev nD) (q : DmaSem sig) : BI.Storable (upEmb : UEmb _ 𝕄) (qPay tbl ids c q) := by
  unfold qPay; (repeat' split) <;> infer_instance

/-- The schedule: one round; a barrier cell's two duties of one unit, a transfer cell's one duty of a chunk's credit. -/
def Rd : Rounds.Schedule (GSem nD τ sig) (Fin 2) 𝕄 where
  duties g r := if r = 0 ∧ g.1.2 = .tc then
      (match g.2 with | .reg _ => Finset.univ | .dma q => if q.val < 3 then ∅ else {0}) else ∅
  unitless _ := False
  amount g _ _ := match g.2 with | .reg _ => 1 | .dma _ => N
  payload g _ d := match g.2 with | .reg _ => barPay g.1.1 d | .dma q => qPay tbl ids g.1.1 q
  amount_pos g _ _ _ := by
    cases g.2 with
    | reg _ => exact Nat.one_pos
    | dma _ => exact N_pos

instance Rd_payload_storable (g : GSem nD τ sig) (r : ℕ) (d : Fin 2) :
    BI.Storable (upEmb : UEmb _ 𝕄) ((Rd tbl ids).payload g r d) := by
  obtain ⟨t, sm⟩ := g
  cases sm with
  | reg _ => exact barPay_storable _ _
  | dma q => exact qPay_storable tbl ids _ q

theorem duties_bar (c : Dev nD) : (Rd tbl ids).duties (barCell c) 0 = Finset.univ := by dsimp only [Rd]; exact if_pos ⟨rfl, rfl⟩
theorem duties_q (c : Dev nD) (j : J) : (Rd tbl ids).duties (qCell c j) 0 = {0} := by
  dsimp only [Rd]; exact (if_pos ⟨rfl, rfl⟩).trans (if_neg (qsem_ge j))
theorem duties_later (g : GSem nD τ sig) : ∀ r, 1 ≤ r → (Rd tbl ids).duties g r = ∅ :=
  fun r hr => if_neg fun h => by omega
theorem amount_bar (c : Dev nD) (d : Fin 2) : (Rd tbl ids).amount (barCell c) 0 d = 1 := rfl
theorem amount_q (c : Dev nD) (j : J) (d : Fin 2) : (Rd tbl ids).amount (qCell c j) 0 d = N := rfl
theorem expect_bar (c : Dev nD) : (Rd tbl ids).expect (barCell c) 0 = 2 := by
  unfold Schedule.expect Schedule.amountOf
  rw [duties_bar]; rfl
theorem expect_q (c : Dev nD) (j : J) : (Rd tbl ids).expect (qCell c j) 0 = N := by
  unfold Schedule.expect Schedule.amountOf
  rw [duties_q, Finset.sum_singleton, amount_q]
theorem payload_bar (c : Dev nD) (d : Fin 2) : (Rd tbl ids).payload (barCell c) 0 d = barPay c d := rfl

/-- What the wait on a transfer cell gives. -/
def jPay (c : Dev nD) (j : J) : sProp 𝕄 :=
  match j with
  | (0, e, k) => pts tbl ids c (so e) k fullShare.right
  | (1, e, k) => pts tbl ids c (de e) k fullShare

theorem payload_q (c : Dev nD) (j : J) (d : Fin 2) : (Rd tbl ids).payload (qCell c j) 0 d = jPay tbl ids c j := by
  show qPay tbl ids c (qsem j) = _
  unfold qPay
  rw [if_neg (qsem_ge j), qE_qsem, qK_qsem]
  match j with
  | (0, e, k) => rw [if_pos (qsem_send e k)]; rfl
  | (1, e, k) => rw [if_neg (qsem_recv e k)]; rfl

theorem rest_bar (c : Dev nD) : bigSep ((Rd tbl ids).duties (barCell c) 0 \ ∅) (fun d => (Rd tbl ids).payload (barCell c) 0 d)
    = iprop(barPay (F := F) c 0 ∗ barPay (F := F) c 1) := by
  rw [Finset.sdiff_empty, duties_bar, bigSep_univ_two]; rfl
theorem rest_q (c : Dev nD) (j : J) : bigSep ((Rd tbl ids).duties (qCell c j) 0 \ ∅) (fun d => (Rd tbl ids).payload (qCell c j) 0 d)
    = jPay tbl ids c j := by
  rw [Finset.sdiff_empty, duties_q, bigSep_singleton, payload_q]

end Sched

/-! ## What each device owes; the levels -/

/-- The tallies of a list of cells and amounts, the head outermost. -/
def sumT : List (GSem nD τ sig × ℕ) → CellTallies nD τ sig Unit
  | [] => 0
  | x :: l => sumT l + tallyAt x.1 () x.2

theorem sumT_apply (l : List (GSem nD τ sig × ℕ)) (g : GSem nD τ sig) :
    sumT l g () = (l.map fun x => if g = x.1 then x.2 else 0).sum := by
  induction l with
  | nil => rfl
  | cons x l ih =>
    show (sumT l + tallyAt x.1 () x.2) g () = _
    rw [Pi.add_apply, Finsupp.add_apply, ih, List.map_cons, List.sum_cons, Nat.add_comm, tallyAt_apply]
    simp

theorem sumT_pos {l : List (GSem nD τ sig × ℕ)} {g : GSem nD τ sig} {u : Unit} (h : 0 < sumT l g u) : ∃ x ∈ l, g = x.1 := by
  induction l with
  | nil => exact absurd h (Nat.lt_irrefl 0)
  | cons x l ih =>
    by_cases hg : g = x.1
    · exact ⟨x, List.mem_cons_self, hg⟩
    · have h' : 0 < (sumT l + tallyAt x.1 () x.2) g u := h
      rw [Pi.add_apply, Finsupp.add_apply, tallyAt_apply, if_neg (fun h => hg h.1)] at h'
      obtain ⟨y, hy, e⟩ := ih h'
      exact ⟨y, List.mem_cons_of_mem _ hy, e⟩

/-- What device `c` owes at launch, in the order it pays: a unit to each partner's barrier, then each chunk of the first
    exchange and each chunk of the second. -/
abbrev owed₀ (c : Dev nD) : List (GSem nD τ sig × ℕ) :=
  [(barCell (pt 0 c), 1), (barCell (pt 1 c), 1),
    (rCell (pt 0 c) 0 0, N), (rCell (pt 0 c) 0 1, N), (rCell (pt 0 c) 0 2, N), (rCell (pt 0 c) 0 3, N),
    (rCell (pt 1 c) 1 0, N), (rCell (pt 1 c) 1 1, N), (rCell (pt 1 c) 1 2, N), (rCell (pt 1 c) 1 3, N)]
def O₀ (c : Dev nD) : CellTallies nD τ sig Unit := sumT (owed₀ c)

def L (g : GSem nD τ sig) : Finset Unit := if g.1.2 = .tc then {()} else ∅
/-- Barrier cells at 1, the receive cells of the two exchanges at 2 and 3, staging and send cells at 0. -/
def lv (g : GSem nD τ sig) (_ : Unit) : ℕ := match g.2 with | .reg _ => 1 | .dma q => if q.val < 11 then 0 else 2 + (qE q).val

theorem L_of_ne (g : GSem nD τ sig) (h : g.1.2 ≠ .tc) : L g = ∅ := if_neg h
theorem L_tc (c : Dev nD) (sm : SemLoc sig) : L ((c : Thread nD τ), sm) = {()} := if_pos rfl
theorem lv_bar (c : Dev nD) : lv (barCell c) () = 1 := rfl
theorem lv_s (c : Dev nD) (e : Fin 2) (k : Fin 4) : lv (sCell c e k) () = 0 := if_pos (qsem_send e k)
theorem lv_r (c : Dev nD) (e : Fin 2) (k : Fin 4) : lv (rCell c e k) () = 2 + e.val :=
  (if_neg (qsem_recv e k)).trans (by rw [qE_qsem])

/-- Every cell of a list is a core's and above level `n`. -/
def Above (n : ℕ) : List (GSem nD τ sig × ℕ) → Prop
  | [] => True
  | x :: l => (x.1.1.2 = .tc ∧ n < lv x.1 ()) ∧ Above n l

theorem Above.mem {n : ℕ} {l : List (GSem nD τ sig × ℕ)} (h : Above n l) : ∀ x ∈ l, x.1.1.2 = .tc ∧ n < lv x.1 () := by
  induction l with
  | nil => intro x hx; cases hx
  | cons y l ih =>
    intro x hx
    rcases List.mem_cons.mp hx with rfl | hx
    · exact h.1
    · exact ih h.2 x hx

/-- A wait on a cell at level at most `n` is allowed while what is owed is above `n`. -/
theorem mayWait_above (c : Dev nD) (sm : SemLoc sig) (n : ℕ) (l : List (GSem nD τ sig × ℕ)) (hn : lv ((c : Thread nD τ), sm) () ≤ n)
    (hl : Above n l) : (levAts L lv : sProp 𝕄) ⊢ MayWait (c : Thread nD τ) sm () (sumT l) :=
  MayOwe.of_cut (L := L) (lev := lv) n (fun p hp => by rw [Finset.mem_singleton.mp hp, L_tc]; exact Finset.mem_singleton_self _)
    (fun g u hg => by
      obtain ⟨x, hx, rfl⟩ := sumT_pos hg
      unfold L; rw [if_pos (hl.mem x hx).1]; exact Finset.mem_singleton_self _)
    (fun p hp => by rw [Finset.mem_singleton.mp hp]; exact hn)
    (fun g u hg => by
      obtain ⟨x, hx, rfl⟩ := sumT_pos hg
      exact (hl.mem x hx).2)

theorem above_owed₀ (c : Dev nD) : Above 0 (owed₀ c) := by
  simp only [owed₀, Above, lv_bar, lv_r]
  decide

end Cert.Exchange

end
-- ==== Proof.Steps.lean ====
/-
# The steps of the body

Each lemma here runs one piece of the kernel's body for any exchange `e` and chunk `k`: a load or a store of a chunk, a
transfer, a wait that closes its cell. Three of them then run the body's repeated sequences as a whole: compute a chunk
and send it (`wp_first`), add the partner's chunk and send the sum (`wp_second`), add the second partner's sum and store
the result (`wp_third`).
-/
module

public import proofs.«01_k».proof.Proof.Protocol

@[expose] public section

noncomputable section

namespace Cert.Exchange

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

abbrev 𝒱₀ : Variants := Variants.none

/-- A device's program, run to a postcondition. -/
abbrev WP (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

variable (tbl : Dev nD → Vec F S2048x256 .bf16) (ids : Dev nD → Vec F S512 .i32) (K : Dev nD × (Unit ⊕ J) → ℕ)

/-- Every cell's invariant, under the name `K` gives it, and that every cell has reached round 0. -/
def records : sProp 𝕄 :=
  iprop((bigSep Finset.univ fun ci : Dev nD × (Unit ⊕ J) => cellInv ER (Rd tbl ids) (K ci) (kcell ci))
    ∗ bigSep Finset.univ fun ci : Dev nD × (Unit ⊕ J) => reached ER (kcell ci) 0)

instance records_persistent : BI.Persistent (records tbl ids K) := by unfold records; infer_instance

theorem inv_at (ci : Dev nD × (Unit ⊕ J)) : records tbl ids K ⊢ cellInv ER (Rd tbl ids) (K ci) (kcell ci) := by
  have h : (bigSep Finset.univ fun ci : Dev nD × (Unit ⊕ J) => (cellInv ER (Rd tbl ids) (K ci) (kcell ci) : sProp 𝕄)) ⊢ cellInv ER (Rd tbl ids) (K ci) (kcell ci) :=
    bigSep_elim (Finset.mem_univ ci)
  unfold records; iintro ⟨H, -⟩; iapply h; iexact H
theorem reached_at (ci : Dev nD × (Unit ⊕ J)) : records tbl ids K ⊢ reached ER (kcell ci) 0 := by
  have h : (bigSep Finset.univ fun ci : Dev nD × (Unit ⊕ J) => (reached ER (kcell ci) 0 : sProp 𝕄)) ⊢ reached ER (kcell ci) 0 :=
    bigSep_elim (Finset.mem_univ ci)
  unfold records; iintro ⟨-, H⟩; iapply h; iexact H

/-- What device `c` still owes, the list `l`, whatever it has waited on. -/
def owesX (c : Dev nD) (l : List (GSem nD τ sig × ℕ)) : sProp 𝕄 := iprop(∃ W, owes (c : Thread nD τ) (sumT l) W)

/-- What sending chunk `k` in exchange `e` needs: the two duty tokens it pays, and its own position at the send cell. -/
def TT (c : Dev nD) (e : Fin 2) (k : Fin 4) : sProp 𝕄 :=
  iprop(dutyTok ER (sCell c e k) 0 (0 : Fin 2) ∗ dutyTok ER (rCell (pt e c) e k) 0 (0 : Fin 2) ∗ atPos ER (sCell c e k) 0 ∅ 0)

/-- What waiting on transfer cell `j` needs: its credit and its position. -/
def QQ (c : Dev nD) (j : J) : sProp 𝕄 := iprop(cred (tallyAt (qCell c j) () N) ∗ atPos ER (qCell c j) 0 ∅ 0)

/-- The chunk at the given offsets, as a transfer names it. -/
abbrev chO (off : Fin 3 → ℕ) (p : ∀ a, off a + S1x128x256.size a ≤ S4x512x256.size a) : Memref sig .tc .vmem S128x256 .bf16 :=
  (cM.slice (Rect.unit (s := S4x512x256) off S1x128x256.size p) (fun _ => rfl)).squeeze S128x256 squeezes_S1x128x256_S128x256

/-- The rectangle of one chunk of the communication buffer, and that of one chunk of the result, at given offsets. -/
abbrev rcO (off : Fin 3 → ℕ) (p : ∀ a, off a + S1x128x256.size a ≤ S4x512x256.size a) : Rect S4x512x256 :=
  Rect.unit (s := S4x512x256) off S1x128x256.size p
abbrev orO (off : Fin 2 → ℕ) (p : ∀ a, off a + S128x256.size a ≤ S512x256.size a) : Rect S512x256 :=
  Rect.unit (s := S512x256) off S128x256.size p

/-! ## Single operations -/

section Ops

/-- A load of a written chunk. -/
theorem wp_ld {α : Type} {Q : α → sProp 𝕄} (c : Dev nD) (s k : Fin 4) (q : PosShare TreeShare) {off : Fin 3 → ℕ} {p} (hoff : off = ![s.val, 128 * k.val, 0])
    {hl : cM.view.LoadsAt (rcO off p).toLoadRect}
    {kont : Vec F S1x128x256 .bf16 → Prog (TpuEff nD τ sig (Elt F) Λ₀ .tc) α} :
    pts tbl ids c s k q ⊢ iprop((pts tbl ids c s k q -∗ WP c (kont (val tbl ids c s k)) Q)
      -∗ WP c (.op (.load cM (rcO off p).toLoadRect hl) kont) Q) := by
  subst hoff
  unfold pts
  iintro H Hk
  iapply (wp_load_rect 𝒱₀ (c : Thread nD τ) none Set.univ (m := cM) (r := rct s k) (S := (rct s k).set) (by rw [set_access])) $$ H
  iintro H
  rw [comm_read]
  iapply Hk; iexact H

/-- A load whose value does not matter, of a chunk holding anything. -/
theorem wp_ld_any {α : Type} {Q : α → sProp 𝕄} (c : Dev nD) (s k : Fin 4) {off : Fin 3 → ℕ} {p} (hoff : off = ![s.val, 128 * k.val, 0])
    {hl : cM.view.LoadsAt (rcO off p).toLoadRect}
    {kont : Vec F S1x128x256 .bf16 → Prog (TpuEff nD τ sig (Elt F) Λ₀ .tc) α} :
    slot (F := F) c s k ⊢ iprop((∀ v, slot (F := F) c s k -∗ WP c (kont v) Q)
      -∗ WP c (.op (.load cM (rcO off p).toLoadRect hl) kont) Q) := by
  subst hoff
  unfold slot
  iintro ⟨%f, H⟩ Hk
  iapply (wp_load_rect 𝒱₀ (c : Thread nD τ) none Set.univ (m := cM) (r := rct s k) (S := (rct s k).set) (by rw [set_access])) $$ H
  iintro H
  iapply Hk
  iexists f; iexact H

/-- A chunk after its value is written into it. -/
theorem pts_write (c : Dev nD) (s k : Fin 4) (f : (cc0_scratch0 : Ref sig .tc).ty.Contents (Elt F)) :
    (((c : Thread nD τ).loc cc0_scratch0) ↦[(rct s k).set]{fullShare} ((cM.access (rct s k)).write (Elt F) f (val tbl ids c s k) Finset.univ) : sProp 𝕄)
      ⊢ pts tbl ids c s k fullShare := by
  unfold pts
  exact Entails.of_eq (pointsTo_congr fun i hi => comm_write tbl ids c s k f i hi)

/-- A store of a chunk's value into it. -/
theorem wp_st {α : Type} {Q : α → sProp 𝕄} (c : Dev nD) (s k : Fin 4) {off : Fin 3 → ℕ} {p} (hoff : off = ![s.val, 128 * k.val, 0])
    {w : FVec F S1x128x256 .bf16} (hw : w = val tbl ids c s k)
    {hx : (cM.access (rcO off p)).Stores Finset.univ}
    {hm : (Finset.univ : Finset (rcO off p).shape.Idx) = Finset.univ ∨ ∀ a, (rcO off p).stride a = 1}
    {kont : PUnit → Prog (TpuEff nD τ sig (Elt F) Λ₀ .tc) α} :
    slot (F := F) c s k ⊢ iprop((pts tbl ids c s k fullShare -∗ WP c (kont ⟨⟩) Q)
      -∗ WP c (.op (.store cM (rcO off p) w Finset.univ hx hm) kont) Q) := by
  subst hoff hw
  unfold slot
  iintro ⟨%f, H⟩ Hk
  iapply (wp_store 𝒱₀ (c : Thread nD τ) none Set.univ (m := cM) (r := rct s k) (S := (rct s k).set) (by rw [View.setOn_univ, set_access])) $$ H
  iintro H
  iapply Hk
  iapply (pts_write tbl ids c s k f) $$ H

/-- The two halves of a chunk. -/
theorem pts_halves (c : Dev nD) (s k : Fin 4) :
    pts tbl ids c s k fullShare ⊣⊢ iprop(pts tbl ids c s k fullShare.left ∗ pts tbl ids c s k fullShare.right) :=
  pointsTo_share (PosShare.mem_left_op_right fullShare)

/-- The transfer of chunk `k` in exchange `e` to the partner: half of the source is lent. -/
theorem wp_send_x {α : Type} {Q : α → sProp 𝕄} (c n : Dev nD) (e : Fin 2) (k : Fin 4) (hn : n = pt e c) {offs offd : Fin 3 → ℕ} {ps pd}
    (hs : offs = ![(so e).val, 128 * k.val, 0]) (hd : offd = ![(de e).val, 128 * k.val, 0])
    {qs qr : DmaSem sig} (hqs : qs = qsem (0, e, k)) (hqr : qr = qsem (1, e, k))
    {hsc : (chO offd pd : Memref sig (Dev.tc n : Thread nD τ).2.kind .vmem S128x256 .bf16).view.ref.isScScratch = false}
    {hsrc : (chO offs ps).view.WordExact}
    {hdst : (chO offd pd).view.WordExact}
    {hsem : DmaTarget.Typed .vmem (.dma qr) (.remote (Dev.tc n : Thread nD τ)
      (chO offd pd) (.dma qs) hsc)}
    {kont : PUnit → Prog (TpuEff nD τ sig (Elt F) Λ₀ .tc) α} (l : List (GSem nD τ sig × ℕ)) :
    iprop(records tbl ids K ∗ pts tbl ids c (so e) k fullShare.right ∗ slot (F := F) (pt e c) (de e) k
        ∗ owesX c ((rCell (pt e c) e k, N) :: l) ∗ TT (F := F) c e k)
      ⊢ iprop(((QQ (F := F) c (0, e, k) ∗ owesX c l) -∗ WP c (kont ⟨⟩) Q)
        -∗ WP c (.op (.enqueueDma (chO offs ps)
            (.remote (Dev.tc n : Thread nD τ)
              (chO offd pd) (.dma qs) hsc)
            (.dma qr) hsrc hdst hsem) kont) Q) := by
  subst hn hs hd hqs hqr
  unfold slot owesX TT
  iintro ⟨#HR, Hsrc, ⟨%f, Hdst⟩, ⟨%W, HO⟩, Hts, Htr, Hat⟩ Hk
  iapply (Rounds.wp_send_pointsTo 𝒱₀ ER (Rd tbl ids) (c : Thread nD τ) none (c' := (pt e c : Thread nD τ)) (src := chM (so e) k) (dst := chM (de e) k)
    (κ₁ := K (c, .inr (0, e, k))) (κ₂ := K (pt e c, .inr (1, e, k)))
    (r₁ := 0) (r₂ := 0) (d₁ := 0) (d₂ := 0) (fs := comm tbl ids c) (fd := f) (q := fullShare.right)
    (by rw [duties_q]; exact Finset.mem_singleton_self _) (by rw [duties_q]; exact Finset.mem_singleton_self _)
    () () N rfl (amount_q tbl ids c (0, e, k) 0) (amount_q tbl ids (pt e c) (1, e, k) 0) (sumT l) rfl (W := W)
    (by rw [payload_q, set_chunk]; exact BI.Entails.refl _)
    (by
      rw [payload_q]
      show _ ⊢ pts tbl ids (pt e c) (de e) k fullShare
      unfold pts
      rw [← set_chunk]
      refine Entails.of_eq (pointsTo_congr fun i hi => ?_)
      have h := comm_land tbl ids (pt e c) e k f i hi
      rwa [pt_pt] at h)) $$ [Hsrc Hdst HO Hts Htr]
  · isplitr; · iapply (inv_at tbl ids K (c, .inr (0, e, k))); iexact HR
    isplitr; · iapply (inv_at tbl ids K (pt e c, .inr (1, e, k))); iexact HR
    isplitl [Hsrc]; · unfold pts; rw [set_chunk]; iexact Hsrc
    isplitl [Hdst]; · rw [set_chunk]; iexact Hdst
    isplitl [HO]; · iexact HO
    isplitl [Hts]; · iexact Hts
    isplitr; · iapply (reached_at tbl ids K (c, .inr (0, e, k))); iexact HR
    isplitl [Htr]; · iexact Htr
    iapply (reached_at tbl ids K (pt e c, .inr (1, e, k))); iexact HR
  iintro ⟨Hc, HO⟩
  iapply Hk
  unfold QQ
  isplitl [Hc Hat]
  · isplitl [Hc] <;> iassumption
  iexists W; iexact HO

/-- The wait on transfer cell `j`: what its duty gives, and the cell closed at zero. -/
theorem wp_wait_x {α : Type} {Q : α → sProp 𝕄} (c : Dev nD) (j : J) (n : ℕ) (l : List (GSem nD τ sig × ℕ)) (hn : lv (qCell c j) () ≤ n) (hl : Above n l)
    {q : DmaSem sig} (hq : q = qsem j) {src dst : Memref sig .tc .vmem S128x256 .bf16} {hs hd}
    (hN : dst.view.dmaCredit = N)
    {kont : PUnit → Prog (TpuEff nD τ sig (Elt F) Λ₀ .tc) α} :
    iprop(records tbl ids K ∗ levAts L lv ∗ QQ (F := F) c j ∗ owesX c l)
      ⊢ iprop(((jPay tbl ids c j ∗ semVal (qCell c j) 0 ∗ owesX c l) -∗ WP c (kont ⟨⟩) Q)
        -∗ WP c (.op (.waitDma2 q src dst hs hd) kont) Q) := by
  subst hq
  unfold QQ owesX
  iintro ⟨#HR, #Hlev, ⟨Hc, Hat⟩, ⟨%W, HO⟩⟩ Hk
  iapply (Rounds.wp_wait_rest_token 𝒱₀ ER (Rd tbl ids) (c : Thread nD τ) none (κ := K (c, .inr j))
      (wpE_waitDma2_eq 𝒱₀ (c : Thread nD τ) none Set.univ) (Set.mem_univ _) () (O := sumT l) (W := W) (R := 0) (m := 0) (T := ∅)
      (by rw [Nat.zero_add, expect_q, hN])) $$ [Hc HO Hat]
  · isplitr; · iapply (inv_at tbl ids K (c, .inr j)); iexact HR
    isplitl [Hc]; · rw [hN]; iexact Hc
    isplitl [HO]; · iexact HO
    isplitr; · iapply (mayWait_above c _ n l hn hl); iexact Hlev
    iexact Hat
  iintro ⟨HO, Hat, -, Hpay⟩
  ihave Hp := (Entails.of_eq (rest_q tbl ids c j)) $$ Hpay
  imod (Rounds.cell_close ER (Rd tbl ids) (Set.mem_univ (K (c, .inr j))) (fun h => h) (R := 0 + 1) (duties_later tbl ids (qCell c j))) $$ [Hat] with Hz
  · isplitr; · iapply (inv_at tbl ids K (c, .inr j)); iexact HR
    iexact Hat
  iapply Hk
  isplitl [Hp]; · iexact Hp
  isplitl [Hz]; · iexact Hz
  iexists _; iexact HO

/-- A store of chunk `k` of the result, after a load whose value does not matter. -/
theorem wp_out {α : Type} {Q : α → sProp 𝕄} (c : Dev nD) (k : Fin 4) (f : Buf (Elt F) ((c : Thread nD τ).loc cc0_stg2_0))
    {off off' : Fin 2 → ℕ} {p p'} (hoff : off = ![128 * k.val, 0]) (hoff' : off' = ![128 * k.val, 0])
    {w : FVec F S128x256 .bf16} (hw : w = outv tbl ids c k)
    {hl : oM.view.LoadsAt (orO off' p').toLoadRect}
    {hx : (oM.access (orO off p)).Stores Finset.univ}
    {hm : (Finset.univ : Finset (orO off p).shape.Idx) = Finset.univ ∨ ∀ a, (orO off p).stride a = 1}
    {kont : PUnit → Prog (TpuEff nD τ sig (Elt F) Λ₀ .tc) α} :
    (((c : Thread nD τ).loc cc0_stg2_0) ↦{fullShare} f : sProp 𝕄)
      ⊢ iprop(((((c : Thread nD τ).loc cc0_stg2_0) ↦{fullShare} putO tbl ids c k f) -∗ WP c (kont ⟨⟩) Q)
      -∗ WP c (.op (.load oM (orO off' p').toLoadRect hl) fun _ => .op (.store oM (orO off p) w Finset.univ hx hm) kont) Q) := by
  subst hoff hoff' hw
  iintro H Hk
  iapply (wp_load 𝒱₀ (c : Thread nD τ) none Set.univ (m := oM) (Finset.subset_univ _)) $$ H; iintro H
  iapply (wp_store 𝒱₀ (c : Thread nD τ) none Set.univ (m := oM) (r := orct k) (Mk := Finset.univ) (Finset.subset_univ _)) $$ H; iintro H
  iapply Hk; iexact H

end Ops

/-! ## The repeated sequences -/

section Seqs

/-- Store the partial answer of chunk `k` and send it to the first partner. -/
theorem wp_first {α : Type} {Q : α → sProp 𝕄} (c n : Dev nD) (k : Fin 4) (hn : n = pt 0 c) {off₀ off₁ offs offd : Fin 3 → ℕ} {p₀ p₁ ps pd}
    (h₀ : off₀ = ![(0 : Fin 4).val, 128 * k.val, 0]) (h₁ : off₁ = ![(0 : Fin 4).val, 128 * k.val, 0])
    (hs : offs = ![(so 0).val, 128 * k.val, 0]) (hd : offd = ![(de 0).val, 128 * k.val, 0])
    {qs qr : DmaSem sig} (hqs : qs = qsem (0, 0, k)) (hqr : qr = qsem (1, 0, k))
    {w : FVec F S1x128x256 .bf16} (hw : w = val tbl ids c 0 k)
    {hl : cM.view.LoadsAt (rcO off₀ p₀).toLoadRect} {hx : (cM.access (rcO off₁ p₁)).Stores Finset.univ}
    {hm : (Finset.univ : Finset (rcO off₁ p₁).shape.Idx) = Finset.univ ∨ ∀ a, (rcO off₁ p₁).stride a = 1}
    {hsc : (chO offd pd : Memref sig (Dev.tc n : Thread nD τ).2.kind .vmem S128x256 .bf16).view.ref.isScScratch = false}
    {hsrc : (chO offs ps).view.WordExact} {hdst : (chO offd pd).view.WordExact}
    {hsem : DmaTarget.Typed .vmem (.dma qr) (.remote (Dev.tc n : Thread nD τ) (chO offd pd) (.dma qs) hsc)}
    {kont : PUnit → Prog (TpuEff nD τ sig (Elt F) Λ₀ .tc) α} (l : List (GSem nD τ sig × ℕ)) :
    iprop(records tbl ids K ∗ slot (F := F) c 0 k ∗ slot (F := F) (pt 0 c) 1 k
        ∗ owesX c ((rCell (pt 0 c) 0 k, N) :: l) ∗ TT (F := F) c 0 k)
      ⊢ iprop(((pts tbl ids c 0 k fullShare.left ∗ QQ (F := F) c (0, 0, k) ∗ owesX c l) -∗ WP c (kont ⟨⟩) Q)
        -∗ WP c (.op (.load cM (rcO off₀ p₀).toLoadRect hl) fun _ => .op (.store cM (rcO off₁ p₁) w Finset.univ hx hm) fun _ =>
            .op (.enqueueDma (chO offs ps) (.remote (Dev.tc n : Thread nD τ) (chO offd pd) (.dma qs) hsc) (.dma qr) hsrc hdst hsem) kont) Q) := by
  iintro ⟨#HR, Hs, Hd, HO, HT⟩ Hk
  iapply (wp_ld_any c 0 k h₀) $$ Hs; iintro %v Hs
  iapply (wp_st tbl ids c 0 k h₁ hw) $$ Hs; iintro Hs
  ihave Hs := (pts_halves tbl ids c 0 k).1 $$ Hs
  icases Hs with ⟨Hl, Hr⟩
  iapply (wp_send_x tbl ids K c n 0 k hn hs hd hqs hqr l) $$ [Hr Hd HO HT]
  · isplitr; · iexact HR
    isplitl [Hr]; · iexact Hr
    isplitl [Hd]; · iexact Hd
    isplitl [HO] <;> iassumption
  iintro ⟨HQ, HO⟩
  iapply Hk
  isplitl [Hl]; · iexact Hl
  isplitl [HQ] <;> iassumption

/-- Wait for the first partner's chunk `k`, add it to the device's own, and send the sum to the second partner. -/
theorem wp_second {α : Type} {Q : α → sProp 𝕄} (c n : Dev nD) (k : Fin 4) (hn : n = pt 1 c)
    {off₀ off₁ off₂ off₃ offs offd : Fin 3 → ℕ} {p₀ p₁ p₂ p₃ ps pd}
    (h₀ : off₀ = ![(0 : Fin 4).val, 128 * k.val, 0]) (h₁ : off₁ = ![(1 : Fin 4).val, 128 * k.val, 0])
    (h₂ : off₂ = ![(2 : Fin 4).val, 128 * k.val, 0]) (h₃ : off₃ = ![(2 : Fin 4).val, 128 * k.val, 0])
    (hs : offs = ![(so 1).val, 128 * k.val, 0]) (hd : offd = ![(de 1).val, 128 * k.val, 0])
    {q qs qr : DmaSem sig} (hq : q = qsem (1, 0, k)) (hqs : qs = qsem (0, 1, k)) (hqr : qr = qsem (1, 1, k))
    {w : Vec F S1x128x256 .bf16 → Vec F S1x128x256 .bf16 → FVec F S1x128x256 .bf16}
    (hw : w (val tbl ids c 0 k) (val tbl ids c 1 k) = val tbl ids c 2 k)
    {src dst : Memref sig .tc .vmem S128x256 .bf16} {hws hwd} (hN : dst.view.dmaCredit = N)
    {hl₀ : cM.view.LoadsAt (rcO off₀ p₀).toLoadRect} {hl₁ : cM.view.LoadsAt (rcO off₁ p₁).toLoadRect}
    {hl₂ : cM.view.LoadsAt (rcO off₂ p₂).toLoadRect} {hx : (cM.access (rcO off₃ p₃)).Stores Finset.univ}
    {hm : (Finset.univ : Finset (rcO off₃ p₃).shape.Idx) = Finset.univ ∨ ∀ a, (rcO off₃ p₃).stride a = 1}
    {hsc : (chO offd pd : Memref sig (Dev.tc n : Thread nD τ).2.kind .vmem S128x256 .bf16).view.ref.isScScratch = false}
    {hsrc : (chO offs ps).view.WordExact} {hdst : (chO offd pd).view.WordExact}
    {hsem : DmaTarget.Typed .vmem (.dma qr) (.remote (Dev.tc n : Thread nD τ) (chO offd pd) (.dma qs) hsc)}
    {kont : PUnit → Prog (TpuEff nD τ sig (Elt F) Λ₀ .tc) α} (l : List (GSem nD τ sig × ℕ)) (hl : Above 2 ((rCell (pt 1 c) 1 k, N) :: l)) :
    iprop(records tbl ids K ∗ levAts L lv ∗ QQ (F := F) c (1, 0, k) ∗ pts tbl ids c 0 k fullShare.left ∗ slot (F := F) c 2 k
        ∗ slot (F := F) (pt 1 c) 3 k ∗ owesX c ((rCell (pt 1 c) 1 k, N) :: l) ∗ TT (F := F) c 1 k)
      ⊢ iprop(((pts tbl ids c 0 k fullShare.left ∗ pts tbl ids c 1 k fullShare ∗ semVal (rCell c 0 k) 0
            ∗ pts tbl ids c 2 k fullShare.left ∗ QQ (F := F) c (0, 1, k) ∗ owesX c l) -∗ WP c (kont ⟨⟩) Q)
        -∗ WP c (.op (.waitDma2 q src dst hws hwd) fun _ => .op (.load cM (rcO off₀ p₀).toLoadRect hl₀) fun v =>
            .op (.load cM (rcO off₁ p₁).toLoadRect hl₁) fun v' => .op (.load cM (rcO off₂ p₂).toLoadRect hl₂) fun _ =>
            .op (.store cM (rcO off₃ p₃) (w v v') Finset.univ hx hm) fun _ =>
            .op (.enqueueDma (chO offs ps) (.remote (Dev.tc n : Thread nD τ) (chO offd pd) (.dma qs) hsc) (.dma qr) hsrc hdst hsem) kont) Q) := by
  iintro ⟨#HR, #Hlev, HQ, H0, Hs, Hd, HO, HT⟩ Hk
  iapply (wp_wait_x tbl ids K c (1, 0, k) 2 _ (le_of_eq (lv_r c 0 k)) hl hq hN) $$ [HQ HO]
  · isplitr; · iexact HR
    isplitr; · iexact Hlev
    isplitl [HQ] <;> iassumption
  iintro ⟨H1, Hz, HO⟩
  ihave H1 := (show jPay tbl ids c (1, 0, k) ⊢ pts tbl ids c 1 k fullShare from BI.Entails.refl _) $$ H1
  iapply (wp_ld tbl ids c 0 k _ h₀) $$ H0; iintro H0
  iapply (wp_ld tbl ids c 1 k _ h₁) $$ H1; iintro H1
  iapply (wp_ld_any c 2 k h₂) $$ Hs; iintro %v Hs
  iapply (wp_st tbl ids c 2 k h₃ hw) $$ Hs; iintro Hs
  ihave Hs := (pts_halves tbl ids c 2 k).1 $$ Hs
  icases Hs with ⟨Hl, Hr⟩
  iapply (wp_send_x tbl ids K c n 1 k hn hs hd hqs hqr l) $$ [Hr Hd HO HT]
  · isplitr; · iexact HR
    isplitl [Hr]; · iexact Hr
    isplitl [Hd]; · iexact Hd
    isplitl [HO] <;> iassumption
  iintro ⟨HQ, HO⟩
  iapply Hk
  isplitl [H0]; · iexact H0
  isplitl [H1]; · iexact H1
  isplitl [Hz]; · iexact Hz
  isplitl [Hl]; · iexact Hl
  isplitl [HQ] <;> iassumption

/-- Wait for the second partner's sum of chunk `k`, add it to the device's own sum, and store that chunk of the result. -/
theorem wp_third {α : Type} {Q : α → sProp 𝕄} (c : Dev nD) (k : Fin 4) (f : Buf (Elt F) ((c : Thread nD τ).loc cc0_stg2_0))
    {off₀ off₁ : Fin 3 → ℕ} {off₂ off₃ : Fin 2 → ℕ} {p₀ p₁ p₂ p₃}
    (h₀ : off₀ = ![(2 : Fin 4).val, 128 * k.val, 0]) (h₁ : off₁ = ![(3 : Fin 4).val, 128 * k.val, 0])
    (h₂ : off₂ = ![128 * k.val, 0]) (h₃ : off₃ = ![128 * k.val, 0])
    {q : DmaSem sig} (hq : q = qsem (1, 1, k))
    {w : Vec F S1x128x256 .bf16 → Vec F S1x128x256 .bf16 → FVec F S128x256 .bf16}
    (hw : w (val tbl ids c 2 k) (val tbl ids c 3 k) = outv tbl ids c k)
    {src dst : Memref sig .tc .vmem S128x256 .bf16} {hws hwd} (hN : dst.view.dmaCredit = N)
    {hl₀ : cM.view.LoadsAt (rcO off₀ p₀).toLoadRect} {hl₁ : cM.view.LoadsAt (rcO off₁ p₁).toLoadRect}
    {hl₂ : oM.view.LoadsAt (orO off₂ p₂).toLoadRect} {hx : (oM.access (orO off₃ p₃)).Stores Finset.univ}
    {hm : (Finset.univ : Finset (orO off₃ p₃).shape.Idx) = Finset.univ ∨ ∀ a, (orO off₃ p₃).stride a = 1}
    {kont : PUnit → Prog (TpuEff nD τ sig (Elt F) Λ₀ .tc) α} :
    iprop(records tbl ids K ∗ levAts L lv ∗ QQ (F := F) c (1, 1, k) ∗ pts tbl ids c 2 k fullShare.left ∗ owesX c []
        ∗ (((c : Thread nD τ).loc cc0_stg2_0) ↦{fullShare} f))
      ⊢ iprop(((pts tbl ids c 2 k fullShare.left ∗ pts tbl ids c 3 k fullShare ∗ semVal (rCell c 1 k) 0 ∗ owesX c []
            ∗ (((c : Thread nD τ).loc cc0_stg2_0) ↦{fullShare} putO tbl ids c k f)) -∗ WP c (kont ⟨⟩) Q)
        -∗ WP c (.op (.waitDma2 q src dst hws hwd) fun _ => .op (.load cM (rcO off₀ p₀).toLoadRect hl₀) fun v =>
            .op (.load cM (rcO off₁ p₁).toLoadRect hl₁) fun v' => .op (.load oM (orO off₂ p₂).toLoadRect hl₂) fun _ =>
            .op (.store oM (orO off₃ p₃) (w v v') Finset.univ hx hm) kont) Q) := by
  iintro ⟨#HR, #Hlev, HQ, H2, HO, Hout⟩ Hk
  iapply (wp_wait_x tbl ids K c (1, 1, k) 3 [] (le_of_eq (lv_r c 1 k)) trivial hq hN) $$ [HQ HO]
  · isplitr; · iexact HR
    isplitr; · iexact Hlev
    isplitl [HQ] <;> iassumption
  iintro ⟨H3, Hz, HO⟩
  ihave H3 := (show jPay tbl ids c (1, 1, k) ⊢ pts tbl ids c 3 k fullShare from BI.Entails.refl _) $$ H3
  iapply (wp_ld tbl ids c 2 k _ h₀) $$ H2; iintro H2
  iapply (wp_ld tbl ids c 3 k _ h₁) $$ H3; iintro H3
  iapply (wp_out tbl ids c k f h₃ h₂ hw) $$ Hout; iintro Hout
  iapply Hk
  isplitl [H2]; · iexact H2
  isplitl [H3]; · iexact H3
  isplitl [Hz]; · iexact Hz
  isplitl [HO] <;> iassumption

/-- Wait until chunk `k`'s transfer of exchange `e` has read its source: the source chunk is whole again. -/
theorem wp_sent {α : Type} {Q : α → sProp 𝕄} (c : Dev nD) (e : Fin 2) (k s : Fin 4) (hse : s = so e)
    {q : DmaSem sig} (hq : q = qsem (0, e, k)) {src dst : Memref sig .tc .vmem S128x256 .bf16} {hws hwd} (hN : dst.view.dmaCredit = N)
    {kont : PUnit → Prog (TpuEff nD τ sig (Elt F) Λ₀ .tc) α} :
    iprop(records tbl ids K ∗ levAts L lv ∗ QQ (F := F) c (0, e, k) ∗ pts tbl ids c s k fullShare.left ∗ owesX c [])
      ⊢ iprop(((pts tbl ids c s k fullShare ∗ semVal (sCell c e k) 0 ∗ owesX c []) -∗ WP c (kont ⟨⟩) Q)
        -∗ WP c (.op (.waitDma2 q src dst hws hwd) kont) Q) := by
  subst hse
  iintro ⟨#HR, #Hlev, HQ, Hl, HO⟩ Hk
  iapply (wp_wait_x tbl ids K c (0, e, k) 0 [] (le_of_eq (lv_s c e k)) trivial hq hN) $$ [HQ HO]
  · isplitr; · iexact HR
    isplitr; · iexact Hlev
    isplitl [HQ] <;> iassumption
  iintro ⟨Hr, Hz, HO⟩
  ihave Hr := (show jPay tbl ids c (0, e, k) ⊢ pts tbl ids c (so e) k fullShare.right from BI.Entails.refl _) $$ Hr
  iapply Hk
  isplitl [Hl Hr]
  · iapply (pts_halves tbl ids c (so e) k).2
    isplitl [Hl]; · iexact Hl
    iexact Hr
  isplitl [Hz] <;> iassumption

end Seqs

end Cert.Exchange

end
-- ==== Proof.Body.lean ====
/-
# The body of one device, from start to end

`sound_body` runs the kernel's body on device `c`: the two signals and the wait on the barrier, the first exchange, the
second, the four chunks of the result, and the waits that give the sent chunks back. It ends with the result buffer at
`outAt`, the communication buffer whole, and all the device's semaphores at zero.
-/
module

public import proofs.«01_k».proof.Proof.Steps

@[expose] public section

noncomputable section

namespace Cert.Exchange

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The memory at launch: any contents, every counter zero. -/
def s₀ : MemSt nD τ sig (Elt F) := ⟨m, fun _ => 0, ρ⟩

/-- Device `c`'s rows of the table and its indices, as staged. -/
def tblOf (c : Dev nD) : Vec F S2048x256 .bf16 := (win0_0.blk (0 : Fin 1)).view.read (Elt F) (m ((c : Thread nD τ).loc main_arg0))
def idsOf (c : Dev nD) : Vec F S512 .i32 := (win0_1.blk (0 : Fin 1)).view.read (Elt F) (m ((c : Thread nD τ).loc main_arg1))

/-- The contents at this memory. -/
abbrev commOf (c : Dev nD) := comm (tblOf m) (idsOf m) c
abbrev outOf (c : Dev nD) := outAt (tblOf m) (idsOf m) c

/-! ## The chunks of the whole buffer -/

/-- The communication buffer is its sixteen chunks. -/
theorem whole_chunks (c : Dev nD) (f : Buf (Elt F) ((c : Thread nD τ).loc cc0_scratch0)) :
    (((c : Thread nD τ).loc cc0_scratch0) ↦{fullShare} f : sProp 𝕄)
      = bigSep Finset.univ fun p : Fin 4 × Fin 4 => (((c : Thread nD τ).loc cc0_scratch0) ↦[(rct p.1 p.2).set]{fullShare} f : sProp 𝕄) := by
  rw [← pointsTo_biUnion (ℓ := (c : Thread nD τ).loc cc0_scratch0) Finset.univ (fun p : Fin 4 × Fin 4 => (rct p.1 p.2).set)
    (fun p _ q _ h => rct_disjoint h)]
  exact congrArg (fun S => (((c : Thread nD τ).loc cc0_scratch0) ↦[S]{fullShare} f : sProp 𝕄)) rct_cover.symm

omit [FloatOps F] in
theorem bigSep_44 (Φ : Fin 4 × Fin 4 → sProp 𝕄) : bigSep Finset.univ Φ
    = iprop(Φ (0, 0) ∗ Φ (0, 1) ∗ Φ (0, 2) ∗ Φ (0, 3) ∗ Φ (1, 0) ∗ Φ (1, 1) ∗ Φ (1, 2) ∗ Φ (1, 3)
      ∗ Φ (2, 0) ∗ Φ (2, 1) ∗ Φ (2, 2) ∗ Φ (2, 3) ∗ Φ (3, 0) ∗ Φ (3, 1) ∗ Φ (3, 2) ∗ Φ (3, 3)) :=
  bigSep_univ_eq_bigSepL [(0, 0), (0, 1), (0, 2), (0, 3), (1, 0), (1, 1), (1, 2), (1, 3), (2, 0), (2, 1), (2, 2), (2, 3), (3, 0), (3, 1), (3, 2), (3, 3)]
    (by decide) (by decide) Φ
omit [FloatOps F] in
theorem bigSep_24 (Φ : Fin 2 × Fin 4 → sProp 𝕄) : bigSep Finset.univ Φ
    = iprop(Φ (0, 0) ∗ Φ (0, 1) ∗ Φ (0, 2) ∗ Φ (0, 3) ∗ Φ (1, 0) ∗ Φ (1, 1) ∗ Φ (1, 2) ∗ Φ (1, 3)) :=
  bigSep_univ_eq_bigSepL [(0, 0), (0, 1), (0, 2), (0, 3), (1, 0), (1, 1), (1, 2), (1, 3)] (by decide) (by decide) Φ

omit [FloatOps F] in
theorem bigSep_J (Φ : J → sProp 𝕄) : bigSep Finset.univ Φ
    = iprop((bigSep Finset.univ fun ek : Fin 2 × Fin 4 => Φ (0, ek)) ∗ bigSep Finset.univ fun ek : Fin 2 × Fin 4 => Φ (1, ek)) := by
  rw [bigSep_univ_prod, bigSep_univ_two]

theorem slots_of_whole (c : Dev nD) (f : Buf (Elt F) ((c : Thread nD τ).loc cc0_scratch0)) :
    (((c : Thread nD τ).loc cc0_scratch0) ↦{fullShare} f : sProp 𝕄) ⊢ bigSep Finset.univ fun p : Fin 4 × Fin 4 => slot (F := F) c p.1 p.2 := by
  rw [whole_chunks]
  have h (p : Fin 4 × Fin 4) : (((c : Thread nD τ).loc cc0_scratch0) ↦[(rct p.1 p.2).set]{fullShare} f : sProp 𝕄) ⊢ slot (F := F) c p.1 p.2 := by
    unfold slot; iintro H; iexists f; iexact H
  exact bigSep_mono fun p _ => h p

theorem whole_of_pts (tbl : Dev nD → Vec F S2048x256 .bf16) (ids : Dev nD → Vec F S512 .i32) (c : Dev nD) :
    (bigSep Finset.univ fun p : Fin 4 × Fin 4 => pts tbl ids c p.1 p.2 fullShare)
      ⊢ (((c : Thread nD τ).loc cc0_scratch0) ↦{fullShare} comm tbl ids c : sProp 𝕄) := by
  rw [whole_chunks]; exact BI.Entails.refl _

/-! ## What the body starts from and ends with -/

variable (K : Dev nD × (Unit ⊕ J) → ℕ)

/-- The protocol's state device `c` starts from, at names `K`: every invariant, its positions, and the tokens of the
    duties it pays. -/
def ghost (c : Dev nD) : sProp 𝕄 :=
  iprop(records (tblOf m) (idsOf m) K ∗ atPos ER (barCell c) 0 ∅ 0
    ∗ dutyTok ER (barCell (pt 0 c)) 0 (0 : Fin 2) ∗ dutyTok ER (barCell (pt 1 c)) 0 (1 : Fin 2)
    ∗ (bigSep Finset.univ fun ek : Fin 2 × Fin 4 => TT (F := F) c ek.1 ek.2)
    ∗ bigSep Finset.univ fun ek : Fin 2 × Fin 4 => atPos ER (rCell c ek.1 ek.2) 0 ∅ 0)

/-- The credit device `c` is given: two units of its barrier and a chunk's credit of each receive cell. -/
def credits (c : Dev nD) : sProp 𝕄 :=
  iprop(cred (tallyAt (barCell c) () 2) ∗ bigSep Finset.univ fun ek : Fin 2 × Fin 4 => cred (tallyAt (rCell c ek.1 ek.2) () N))

def start (c : Dev nD) : sProp 𝕄 := iprop((∃ K, ghost m K c) ∗ credits (F := F) c ∗ levAts L lv)

def Φ₀ (c : Dev nD) : sProp 𝕄 :=
  iprop(start m c ∗ ∃ f : Buf (Elt F) ((c : Thread nD τ).loc cc0_scratch0), ((c : Thread nD τ).loc cc0_scratch0) ↦{fullShare} f)
def Φ₁ (c : Dev nD) : sProp 𝕄 :=
  iprop((((c : Thread nD τ).loc cc0_scratch0) ↦{fullShare} commOf m c) ∗ semVal (barCell c) 0 ∗ bigSep Finset.univ fun j : J => semVal (qCell c j) 0)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => tblOf m c
    | ⟨1, _⟩ => idsOf m c
    | ⟨2, _⟩ => outOf m c
  Φ t := match t with
    | ⟨0, _⟩ => Φ₀ m c
    | ⟨_ + 1, _⟩ => Φ₁ m c
  q _ := fullShare
  owed t := match t with
    | ⟨0, _⟩ => O₀ c
    | ⟨_ + 1, _⟩ => 0

theorem fetch_0 (t : Fin cfg0.N) : (cfg0.win (0 : Fin 3)).fetch t = true := by rw [fin_N0 t]; rfl
theorem fetch_1 (t : Fin cfg0.N) : (cfg0.win (1 : Fin 3)).fetch t = true := by rw [fin_N0 t]; rfl

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄) = stg c b X := by
  unfold owns; simp only [Memref.view_whole, View.read_whole, View.set_whole]

/-- The body's own part of what it starts from and what it ends with, the staged buffers beside it. -/
def bodyPre (c : Dev nD) : sProp 𝕄 :=
  iprop((ghost m K c ∗ credits (F := F) c ∗ levAts L lv ∗ ∃ f : Buf (Elt F) ((c : Thread nD τ).loc cc0_scratch0), ((c : Thread nD τ).loc cc0_scratch0) ↦{fullShare} f)
    ∗ owesX c (owed₀ c)
    ∗ (((c : Thread nD τ).loc cc0_stg0_0) ↦{fullShare} tblOf m c)
    ∗ (((c : Thread nD τ).loc cc0_stg1_0) ↦{fullShare} idsOf m c)
    ∗ ∃ f : Buf (Elt F) ((c : Thread nD τ).loc cc0_stg2_0), ((c : Thread nD τ).loc cc0_stg2_0) ↦{fullShare} f)

def bodyPost (c : Dev nD) : sProp 𝕄 :=
  iprop(Φ₁ m c ∗ owesX c [] ∗ (((c : Thread nD τ).loc cc0_stg0_0) ↦{fullShare} tblOf m c)
    ∗ (((c : Thread nD τ).loc cc0_stg1_0) ↦{fullShare} idsOf m c)
    ∗ (((c : Thread nD τ).loc cc0_stg2_0) ↦{fullShare} outOf m c))

theorem hz1 : (![0] : Fin 1 → Nat) = fun _ => 0 := funext fun a => by fin_cases a; rfl
theorem hz2 : (![0, 0] : Fin 2 → Nat) = fun _ => 0 := funext fun a => by fin_cases a <;> rfl

/-- A load of a whole staging buffer reads its contents. -/
theorem read_tbl (f : (cc0_stg0_0 : Ref sig .tc).ty.Contents (Elt F)) :
    View.readAt (Elt F) (Memref.whole cc0_stg0_0).view (Rect.unit (s := S2048x256) ![0, 0] S2048x256.size inb_S2048x256_S2048x256_0_0).toLoadRect f = f :=
  Memref.readAt_unit_zero (Elt F) cc0_stg0_0 hz2 _ f
theorem read_ids (f : (cc0_stg1_0 : Ref sig .tc).ty.Contents (Elt F)) :
    View.readAt (Elt F) (Memref.whole cc0_stg1_0).view (Rect.unit (s := S512) ![0] S512.size inb_S512_S512_0).toLoadRect f = f :=
  Memref.readAt_unit_zero (Elt F) cc0_stg1_0 hz1 _ f

/-! ## The barrier -/

section Barrier

variable (tbl : Dev nD → Vec F S2048x256 .bf16) (ids : Dev nD → Vec F S512 .i32)

/-- The signal to partner `e`: it hands over the four chunks of this device that exchange `e` writes. -/
theorem wp_sig {α : Type} {Q : α → sProp 𝕄} (c n : Dev nD) (e : Fin 2) (hn : n = pt e c) {a : ℕ} (ha : a = 1)
    {kont : PUnit → Prog (TpuEff nD τ sig (Elt F) Λ₀ .tc) α} (l : List (GSem nD τ sig × ℕ)) :
    iprop(records tbl ids K ∗ owesX c ((barCell (pt e c), 1) :: l) ∗ dutyTok ER (barCell (pt e c)) 0 e
        ∗ slot (F := F) c (de e) 0 ∗ slot (F := F) c (de e) 1 ∗ slot (F := F) c (de e) 2 ∗ slot (F := F) c (de e) 3)
      ⊢ iprop((owesX c l -∗ WP c (kont ⟨⟩) Q) -∗ WP c (.op (.semSignal (Dev.tc n : Thread nD τ) barS a) kont) Q) := by
  subst hn ha
  unfold owesX
  iintro ⟨#HR, ⟨%W, HO⟩, Ht, Hs⟩ Hk
  iapply (Rounds.wp_signal 𝒱₀ ER (Rd tbl ids) (c : Thread nD τ) none (dst := (pt e c : Thread nD τ)) (κ := K (pt e c, .inl ()))
      (d := e) (r := 0) (by rw [duties_bar]; exact Finset.mem_univ _) (amount_bar tbl ids (pt e c) e) () (sumT l) rfl (W := W)) $$ [HO Ht Hs]
  · isplitr; · iapply (inv_at tbl ids K (pt e c, .inl ())); iexact HR
    isplitl [HO]; · iexact HO
    isplitl [Ht]; · iexact Ht
    isplitl [Hs]
    · rw [payload_bar]; unfold barPay; rw [pt_pt]; iexact Hs
    iapply (reached_at tbl ids K (pt e c, .inl ())); iexact HR
  iintro HO
  iapply Hk
  iexists W; iexact HO

/-- The wait on the barrier: the chunks of both partners this device writes, and the cell closed at zero. -/
theorem wp_bar {α : Type} {Q : α → sProp 𝕄} (c : Dev nD) {a : ℕ} (ha : a = 2)
    {kont : PUnit → Prog (TpuEff nD τ sig (Elt F) Λ₀ .tc) α} (l : List (GSem nD τ sig × ℕ)) (hl : Above 1 l) :
    iprop(records tbl ids K ∗ levAts L lv ∗ cred (tallyAt (barCell c) () 2) ∗ atPos ER (barCell c) 0 ∅ 0 ∗ owesX c l)
      ⊢ iprop(((barPay (F := F) c 0 ∗ barPay (F := F) c 1 ∗ semVal (barCell c) 0 ∗ owesX c l) -∗ WP c (kont ⟨⟩) Q)
        -∗ WP c (.op (.semWait barS a) kont) Q) := by
  subst ha
  unfold owesX
  iintro ⟨#HR, #Hlev, Hc, Hat, ⟨%W, HO⟩⟩ Hk
  iapply (Rounds.wp_wait_rest_token 𝒱₀ ER (Rd tbl ids) (c : Thread nD τ) none (κ := K (c, .inl ()))
      (wpE_semWait_eq 𝒱₀ (c : Thread nD τ) none Set.univ) (Set.mem_univ _) () (O := sumT l) (W := W) (R := 0) (m := 0) (T := ∅)
      (by rw [Nat.zero_add, expect_bar])) $$ [Hc HO Hat]
  · isplitr; · iapply (inv_at tbl ids K (c, .inl ())); iexact HR
    isplitl [Hc]; · iexact Hc
    isplitl [HO]; · iexact HO
    isplitr; · iapply (mayWait_above c _ 1 l (le_of_eq (lv_bar c)) hl); iexact Hlev
    iexact Hat
  iintro ⟨HO, Hat, -, Hpay⟩
  ihave Hp := (Entails.of_eq (rest_bar tbl ids c)) $$ Hpay
  imod (Rounds.cell_close ER (Rd tbl ids) (Set.mem_univ (K (c, .inl ()))) (fun h => h) (R := 0 + 1) (duties_later tbl ids (barCell c))) $$ [Hat] with Hz
  · isplitr; · iapply (inv_at tbl ids K (c, .inl ())); iexact HR
    iexact Hat
  iapply Hk
  icases Hp with ⟨H0, H1⟩
  isplitl [H0]; · iexact H0
  isplitl [H1]; · iexact H1
  isplitl [Hz]; · iexact Hz
  iexists _; iexact HO

end Barrier

/-! ## The whole body -/

set_option maxRecDepth 65536 in
set_option maxHeartbeats 4000000 in
/-- The body of device `c`, run from `bodyPre` to `bodyPost`, one step of the protocol after another. -/
theorem sound_body (c : Dev nD) (Kt : PUnit → sProp 𝕄) :
    iprop(bodyPre m K c ∗ (bodyPost m c -∗ Kt ⟨⟩))
      ⊢ WP c (cc0_body (Memref.whole cc0_stg0_0) (Memref.isWhole_whole _) (Memref.whole cc0_stg1_0) (Memref.isWhole_whole _)
          (Memref.whole cc0_stg2_0) (Memref.isWhole_whole _) (Memref.whole cc0_scratch0) (Memref.isWhole_whole _) cc0_scratch1 cc0_scratch2) Kt := by
  simp only [cc0_body_eq_skeleton]; unfold cc0_body_skel
  simp only [k0_part1_eq_skeleton, k0_part2_eq_skeleton, k0_part3_eq_skeleton, k0_part4_eq_skeleton, k0_part5_eq_skeleton, k0_part6_eq_skeleton,
    k0_part7_eq_skeleton, k0_part8_eq_skeleton, k0_part9_eq_skeleton, k0_part10_eq_skeleton, k0_part11_eq_skeleton, k0_part12_eq_skeleton]
  unfold k0_part1_skel k0_part2_skel k0_part3_skel k0_part4_skel k0_part5_skel k0_part6_skel k0_part7_skel k0_part8_skel k0_part9_skel
    k0_part10_skel k0_part11_skel k0_part12_skel
  simp only [semSignalWord, semWaitWord, Prog.lift, Prog.bind_op, Prog.bind_ret, Prog.pure_eq_ret, wp_deviceId]
  unfold bodyPre ghost credits
  rw [bigSep_24, bigSep_24, bigSep_24]
  iintro ⟨⟨⟨⟨#HR, HatB, Htb0, Htb1, ⟨HT00, HT01, HT02, HT03, HT10, HT11, HT12, HT13⟩, ⟨Ha00, Ha01, Ha02, Ha03, Ha10, Ha11, Ha12, Ha13⟩⟩, ⟨HcB, Hc00, Hc01, Hc02, Hc03, Hc10, Hc11, Hc12, Hc13⟩, #Hlev, ⟨%f0, Hscr⟩⟩, HO, Hx, Hi, ⟨%fo, Hout⟩⟩, Hk⟩
  ihave Hscr := (slots_of_whole c f0) $$ Hscr
  ihave Hscr := (Entails.of_eq (bigSep_44 _)) $$ Hscr
  icases Hscr with ⟨S00, S01, S02, S03, S10, S11, S12, S13, S20, S21, S22, S23, S30, S31, S32, S33⟩
  iapply (wp_sig K (tblOf m) (idsOf m) c _ 0 (dev1_eq c) (by decide) _) $$ [HO Htb0 S10 S11 S12 S13]
  · isplitr; · iexact HR
    isplitl [HO]; · iexact HO
    isplitl [Htb0]; · iexact Htb0
    isplitl [S10]; · iexact S10
    isplitl [S11]; · iexact S11
    isplitl [S12]; · iexact S12
    iexact S13
  iintro HO
  iapply (wp_sig K (tblOf m) (idsOf m) c _ 1 (dev2_eq c) (by decide) _) $$ [HO Htb1 S30 S31 S32 S33]
  · isplitr; · iexact HR
    isplitl [HO]; · iexact HO
    isplitl [Htb1]; · iexact Htb1
    isplitl [S30]; · iexact S30
    isplitl [S31]; · iexact S31
    isplitl [S32]; · iexact S32
    iexact S33
  iintro HO
  iapply (wp_bar K (tblOf m) (idsOf m) c (by decide) [(rCell (pt 0 c) 0 0, N), (rCell (pt 0 c) 0 1, N), (rCell (pt 0 c) 0 2, N), (rCell (pt 0 c) 0 3, N), (rCell (pt 1 c) 1 0, N), (rCell (pt 1 c) 1 1, N), (rCell (pt 1 c) 1 2, N), (rCell (pt 1 c) 1 3, N)] (by simp only [Above, lv_r]; decide)) $$ [HcB HatB HO]
  · isplitr; · iexact HR
    isplitr; · iexact Hlev
    isplitl [HcB]; · iexact HcB
    isplitl [HatB] <;> iassumption
  unfold barPay
  iintro ⟨⟨P00, P01, P02, P03⟩, ⟨P10, P11, P12, P13⟩, HzB, HO⟩
  iapply (wp_load 𝒱₀ (c : Thread nD τ) none Set.univ (m := (Memref.whole cc0_stg0_0)) (Finset.subset_univ _)) $$ Hx; iintro Hx
  rw [read_tbl]
  iapply (wp_load 𝒱₀ (c : Thread nD τ) none Set.univ (m := (Memref.whole cc0_stg1_0)) (Finset.subset_univ _)) $$ Hi; iintro Hi
  rw [read_ids]
  iapply (wp_first (tblOf m) (idsOf m) K c _ 0 (dev3_eq c) rfl rfl rfl rfl rfl rfl rfl _) $$ [S00 P00 HO HT00]
  · isplitr; · iexact HR
    isplitl [S00]; · iexact S00
    isplitl [P00]; · iexact P00
    isplitl [HO] <;> iassumption
  iintro ⟨S00, HQ00, HO⟩
  iapply (wp_first (tblOf m) (idsOf m) K c _ 1 (dev4_eq c) rfl rfl rfl rfl rfl rfl rfl _) $$ [S01 P01 HO HT01]
  · isplitr; · iexact HR
    isplitl [S01]; · iexact S01
    isplitl [P01]; · iexact P01
    isplitl [HO] <;> iassumption
  iintro ⟨S01, HQ01, HO⟩
  iapply (wp_first (tblOf m) (idsOf m) K c _ 2 (dev5_eq c) rfl rfl rfl rfl rfl rfl rfl _) $$ [S02 P02 HO HT02]
  · isplitr; · iexact HR
    isplitl [S02]; · iexact S02
    isplitl [P02]; · iexact P02
    isplitl [HO] <;> iassumption
  iintro ⟨S02, HQ02, HO⟩
  iapply (wp_first (tblOf m) (idsOf m) K c _ 3 (dev6_eq c) rfl rfl rfl rfl rfl rfl rfl _) $$ [S03 P03 HO HT03]
  · isplitr; · iexact HR
    isplitl [S03]; · iexact S03
    isplitl [P03]; · iexact P03
    isplitl [HO] <;> iassumption
  iintro ⟨S03, HQ03, HO⟩
  iapply (wp_second (tblOf m) (idsOf m) K c _ 0 (dev7_eq c) rfl rfl rfl rfl rfl rfl rfl rfl rfl rfl (credit_eq 1 0) [(rCell (pt 1 c) 1 1, N), (rCell (pt 1 c) 1 2, N), (rCell (pt 1 c) 1 3, N)] (by simp only [Above, lv_r]; decide)) $$ [Hc00 Ha00 S00 S20 P10 HO HT10]
  · isplitr; · iexact HR
    isplitr; · iexact Hlev
    isplitl [Hc00 Ha00]; · unfold QQ; isplitl [Hc00] <;> iassumption
    isplitl [S00]; · iexact S00
    isplitl [S20]; · iexact S20
    isplitl [P10]; · iexact P10
    isplitl [HO] <;> iassumption
  iintro ⟨S00, S10, Zr00, S20, HQ10, HO⟩
  iapply (wp_second (tblOf m) (idsOf m) K c _ 1 (dev8_eq c) rfl rfl rfl rfl rfl rfl rfl rfl rfl rfl (credit_eq 1 1) [(rCell (pt 1 c) 1 2, N), (rCell (pt 1 c) 1 3, N)] (by simp only [Above, lv_r]; decide)) $$ [Hc01 Ha01 S01 S21 P11 HO HT11]
  · isplitr; · iexact HR
    isplitr; · iexact Hlev
    isplitl [Hc01 Ha01]; · unfold QQ; isplitl [Hc01] <;> iassumption
    isplitl [S01]; · iexact S01
    isplitl [S21]; · iexact S21
    isplitl [P11]; · iexact P11
    isplitl [HO] <;> iassumption
  iintro ⟨S01, S11, Zr01, S21, HQ11, HO⟩
  iapply (wp_second (tblOf m) (idsOf m) K c _ 2 (dev9_eq c) rfl rfl rfl rfl rfl rfl rfl rfl rfl rfl (credit_eq 1 2) [(rCell (pt 1 c) 1 3, N)] (by simp only [Above, lv_r]; decide)) $$ [Hc02 Ha02 S02 S22 P12 HO HT12]
  · isplitr; · iexact HR
    isplitr; · iexact Hlev
    isplitl [Hc02 Ha02]; · unfold QQ; isplitl [Hc02] <;> iassumption
    isplitl [S02]; · iexact S02
    isplitl [S22]; · iexact S22
    isplitl [P12]; · iexact P12
    isplitl [HO] <;> iassumption
  iintro ⟨S02, S12, Zr02, S22, HQ12, HO⟩
  iapply (wp_second (tblOf m) (idsOf m) K c _ 3 (dev10_eq c) rfl rfl rfl rfl rfl rfl rfl rfl rfl rfl (credit_eq 1 3) [] (by simp only [Above, lv_r]; decide)) $$ [Hc03 Ha03 S03 S23 P13 HO HT13]
  · isplitr; · iexact HR
    isplitr; · iexact Hlev
    isplitl [Hc03 Ha03]; · unfold QQ; isplitl [Hc03] <;> iassumption
    isplitl [S03]; · iexact S03
    isplitl [S23]; · iexact S23
    isplitl [P13]; · iexact P13
    isplitl [HO] <;> iassumption
  iintro ⟨S03, S13, Zr03, S23, HQ13, HO⟩
  iapply (wp_third (tblOf m) (idsOf m) K c 0 _ rfl rfl rfl rfl rfl rfl (credit_eq 3 0)) $$ [Hc10 Ha10 S20 HO Hout]
  · isplitr; · iexact HR
    isplitr; · iexact Hlev
    isplitl [Hc10 Ha10]; · unfold QQ; isplitl [Hc10] <;> iassumption
    isplitl [S20]; · iexact S20
    isplitl [HO] <;> iassumption
  iintro ⟨S20, S30, Zr10, HO, Hout⟩
  iapply (wp_third (tblOf m) (idsOf m) K c 1 _ rfl rfl rfl rfl rfl rfl (credit_eq 3 1)) $$ [Hc11 Ha11 S21 HO Hout]
  · isplitr; · iexact HR
    isplitr; · iexact Hlev
    isplitl [Hc11 Ha11]; · unfold QQ; isplitl [Hc11] <;> iassumption
    isplitl [S21]; · iexact S21
    isplitl [HO] <;> iassumption
  iintro ⟨S21, S31, Zr11, HO, Hout⟩
  iapply (wp_third (tblOf m) (idsOf m) K c 2 _ rfl rfl rfl rfl rfl rfl (credit_eq 3 2)) $$ [Hc12 Ha12 S22 HO Hout]
  · isplitr; · iexact HR
    isplitr; · iexact Hlev
    isplitl [Hc12 Ha12]; · unfold QQ; isplitl [Hc12] <;> iassumption
    isplitl [S22]; · iexact S22
    isplitl [HO] <;> iassumption
  iintro ⟨S22, S32, Zr12, HO, Hout⟩
  iapply (wp_third (tblOf m) (idsOf m) K c 3 _ rfl rfl rfl rfl rfl rfl (credit_eq 3 3)) $$ [Hc13 Ha13 S23 HO Hout]
  · isplitr; · iexact HR
    isplitr; · iexact Hlev
    isplitl [Hc13 Ha13]; · unfold QQ; isplitl [Hc13] <;> iassumption
    isplitl [S23]; · iexact S23
    isplitl [HO] <;> iassumption
  iintro ⟨S23, S33, Zr13, HO, Hout⟩
  iapply (wp_sent (tblOf m) (idsOf m) K c 0 0 0 rfl rfl (credit_eq 0 0)) $$ [HQ00 S00 HO]
  · isplitr; · iexact HR
    isplitr; · iexact Hlev
    isplitl [HQ00]; · iexact HQ00
    isplitl [S00] <;> iassumption
  iintro ⟨S00, Zs00, HO⟩
  iapply (wp_sent (tblOf m) (idsOf m) K c 0 1 0 rfl rfl (credit_eq 0 1)) $$ [HQ01 S01 HO]
  · isplitr; · iexact HR
    isplitr; · iexact Hlev
    isplitl [HQ01]; · iexact HQ01
    isplitl [S01] <;> iassumption
  iintro ⟨S01, Zs01, HO⟩
  iapply (wp_sent (tblOf m) (idsOf m) K c 0 2 0 rfl rfl (credit_eq 0 2)) $$ [HQ02 S02 HO]
  · isplitr; · iexact HR
    isplitr; · iexact Hlev
    isplitl [HQ02]; · iexact HQ02
    isplitl [S02] <;> iassumption
  iintro ⟨S02, Zs02, HO⟩
  iapply (wp_sent (tblOf m) (idsOf m) K c 0 3 0 rfl rfl (credit_eq 0 3)) $$ [HQ03 S03 HO]
  · isplitr; · iexact HR
    isplitr; · iexact Hlev
    isplitl [HQ03]; · iexact HQ03
    isplitl [S03] <;> iassumption
  iintro ⟨S03, Zs03, HO⟩
  iapply (wp_sent (tblOf m) (idsOf m) K c 1 0 2 rfl rfl (credit_eq 2 0)) $$ [HQ10 S20 HO]
  · isplitr; · iexact HR
    isplitr; · iexact Hlev
    isplitl [HQ10]; · iexact HQ10
    isplitl [S20] <;> iassumption
  iintro ⟨S20, Zs10, HO⟩
  iapply (wp_sent (tblOf m) (idsOf m) K c 1 1 2 rfl rfl (credit_eq 2 1)) $$ [HQ11 S21 HO]
  · isplitr; · iexact HR
    isplitr; · iexact Hlev
    isplitl [HQ11]; · iexact HQ11
    isplitl [S21] <;> iassumption
  iintro ⟨S21, Zs11, HO⟩
  iapply (wp_sent (tblOf m) (idsOf m) K c 1 2 2 rfl rfl (credit_eq 2 2)) $$ [HQ12 S22 HO]
  · isplitr; · iexact HR
    isplitr; · iexact Hlev
    isplitl [HQ12]; · iexact HQ12
    isplitl [S22] <;> iassumption
  iintro ⟨S22, Zs12, HO⟩
  iapply (wp_sent (tblOf m) (idsOf m) K c 1 3 2 rfl rfl (credit_eq 2 3)) $$ [HQ13 S23 HO]
  · isplitr; · iexact HR
    isplitr; · iexact Hlev
    isplitl [HQ13]; · iexact HQ13
    isplitl [S23] <;> iassumption
  iintro ⟨S23, Zs13, HO⟩
  rw [putO_all]; unfold WP; rw [wp_ret]; imodintro
  iapply Hk
  unfold bodyPost Φ₁
  rw [bigSep_J, bigSep_24, bigSep_24]
  isplitl [S00 S01 S02 S03 S10 S11 S12 S13 S20 S21 S22 S23 S30 S31 S32 S33 HzB Zs00 Zs01 Zs02 Zs03 Zs10 Zs11 Zs12 Zs13 Zr00 Zr01 Zr02 Zr03 Zr10 Zr11 Zr12 Zr13]
  · isplitl [S00 S01 S02 S03 S10 S11 S12 S13 S20 S21 S22 S23 S30 S31 S32 S33]
    · iapply (whole_of_pts (tblOf m) (idsOf m) c)
      iapply (Entails.of_eq (bigSep_44 _).symm)
      isplitl [S00]; · iexact S00
      isplitl [S01]; · iexact S01
      isplitl [S02]; · iexact S02
      isplitl [S03]; · iexact S03
      isplitl [S10]; · iexact S10
      isplitl [S11]; · iexact S11
      isplitl [S12]; · iexact S12
      isplitl [S13]; · iexact S13
      isplitl [S20]; · iexact S20
      isplitl [S21]; · iexact S21
      isplitl [S22]; · iexact S22
      isplitl [S23]; · iexact S23
      isplitl [S30]; · iexact S30
      isplitl [S31]; · iexact S31
      isplitl [S32]; · iexact S32
      iexact S33
    isplitl [HzB]; · iexact HzB
    isplitl [Zs00 Zs01 Zs02 Zs03 Zs10 Zs11 Zs12 Zs13]
    · isplitl [Zs00]; · iexact Zs00
      isplitl [Zs01]; · iexact Zs01
      isplitl [Zs02]; · iexact Zs02
      isplitl [Zs03]; · iexact Zs03
      isplitl [Zs10]; · iexact Zs10
      isplitl [Zs11]; · iexact Zs11
      isplitl [Zs12]; · iexact Zs12
      iexact Zs13
    isplitl [Zr00]; · iexact Zr00
    isplitl [Zr01]; · iexact Zr01
    isplitl [Zr02]; · iexact Zr02
    isplitl [Zr03]; · iexact Zr03
    isplitl [Zr10]; · iexact Zr10
    isplitl [Zr11]; · iexact Zr11
    isplitl [Zr12]; · iexact Zr12
    iexact Zr13
  isplitl [HO]; · iexact HO
  isplitl [Hx]; · iexact Hx
  isplitl [Hi] <;> iassumption

def bodyPre' (c : Dev nD) : sProp 𝕄 :=
  iprop(Φ₀ m c ∗ (dats m ρ 0 c).owesAt () t0_0.castSucc
    ∗ (∃ d, stg c cc0_stg0_0 ((dats m ρ 0 c).before (0 : Fin 3) t0_0 d))
    ∗ (∃ d, stg c cc0_stg1_0 ((dats m ρ 0 c).before (1 : Fin 3) t0_0 d))
    ∗ (∃ d, stg c cc0_stg2_0 ((dats m ρ 0 c).before (2 : Fin 3) t0_0 d)))
def bodyPost' (c : Dev nD) : sProp 𝕄 :=
  iprop(Φ₁ m c ∗ (dats m ρ 0 c).owesAt () t0_0.succ
    ∗ stg c cc0_stg0_0 (tblOf m c) ∗ stg c cc0_stg1_0 (idsOf m c) ∗ stg c cc0_stg2_0 (outOf m c))

set_option maxRecDepth 65536 in
/-- The body obligation of the pipeline, on device `c`. -/
theorem body_obligation (c : Dev nD) : BodyObligation (dats (F := F) m ρ 0 c) (defs₀ (F := F)) 𝒱₀ () Set.univ := fun t => by
  rw [fin_N0 t]
  rw [bigSep_W0, bigSep_W0]
  simp only [owns_whole_eq]
  show bodyPre' m ρ c ⊢ WP c
    (cc0_body (Memref.whole cc0_stg0_0) (Memref.isWhole_whole _) (Memref.whole cc0_stg1_0) (Memref.isWhole_whole _)
          (Memref.whole cc0_stg2_0) (Memref.isWhole_whole _) (Memref.whole cc0_scratch0) (Memref.isWhole_whole _) cc0_scratch1 cc0_scratch2)
    (fun _ => bodyPost' m ρ c)
  unfold bodyPre' Φ₀ start Dat.owesAt Pipeline.owesWithin
  iintro ⟨⟨⟨⟨%K, Hg⟩, Hc, Hl⟩, Hscr⟩, ⟨%W, %hW, HO⟩, ⟨%d0, %g0, %hg0, Hx⟩, ⟨%d1, %g1, %hg1, Hi⟩, ⟨%d2, %g2, %hg2, Hout⟩⟩
  have hx : g0 = tblOf m c := by rw [hg0]; unfold Dat.before; rw [if_pos (fetch_0 t0_0)]; rfl
  have hi : g1 = idsOf m c := by rw [hg1]; unfold Dat.before; rw [if_pos (fetch_1 t0_0)]; rfl
  subst hx hi
  rw [show (dats m ρ 0 c).owed t0_0.castSucc = sumT (owed₀ c) from rfl]
  iapply (sound_body m K c fun _ => bodyPost' m ρ c)
  unfold bodyPre owesX
  isplitr []
  · isplitl [Hg Hc Hl Hscr]
    · isplitl [Hg]; · iexact Hg
      isplitl [Hc]; · iexact Hc
      isplitl [Hl]; · iexact Hl
      iexact Hscr
    isplitl [HO]; · iexists W; iexact HO
    isplitl [Hx]; · iexact Hx
    isplitl [Hi]; · iexact Hi
    iexists g2; iexact Hout
  · unfold bodyPost bodyPost' owesX Dat.owesAt Pipeline.owesWithin
    rw [show (dats m ρ 0 c).owed t0_0.succ = sumT [] from rfl]
    iintro ⟨HΦ, ⟨%W', HO⟩, Hx, Hi, Hout⟩
    isplitl [HΦ]; · iexact HΦ
    isplitl [HO]
    · iexists W'
      isplitr; · ipureintro; exact fun _ _ => Or.inl trivial
      iexact HO
    isplitl [Hx]
    · iexists _; isplitr; · (ipureintro; rfl)
      iexact Hx
    isplitl [Hi]
    · iexists _; isplitr; · (ipureintro; rfl)
      iexact Hi
    iexists _; isplitr; · (ipureintro; rfl)
    iexact Hout

end Cert.Exchange

end
-- ==== Proof.Launch.lean ====
/-
# The launch: every device's body, from any memory

The protocol's cells are funded at launch, the tokens of their duties dealt to the devices that pay them, and each
device's credit read off what all devices owe it. `run_main` then says: from any memory with zero counters the kernel's
program terminates on every device, with the result array as computed, the inputs as they were, and every semaphore
at zero.
-/
module

public import proofs.«01_k».proof.Proof.Body
public import Idealize.ShloMosaic.Lib.Pipeline.CollectiveSegs

@[expose] public section

noncomputable section

namespace Cert.Exchange

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The sixteen transfer semaphores are the kernel's own, apart from the staging ones. -/
theorem ownSemFacts : Pipeline.OwnSemFacts cfg0.spec osem := by decide

theorem share_eq (c : Dev nD) (w : Fin cfg0.W) : (dats m ρ 0 c).share w = fullShare := by unfold Dat.share; split <;> rfl

/-! ## The cells and tokens the launch funds -/

/-- A device's own duty tokens: the two of its barrier cell, and one of each transfer cell. -/
abbrev Tok : Type := Fin 2 ⊕ J
abbrev tokOf (ct : Dev nD × Tok) : GSem nD τ sig × ℕ × Fin 2 :=
  match ct.2 with | .inl e => (barCell ct.1, 0, e) | .inr j => (qCell ct.1 j, 0, 0)

theorem kcell_injective : Function.Injective (kcell : Dev nD × (Unit ⊕ J) → GSem nD τ sig) := by
  rintro ⟨c, i⟩ ⟨c', i'⟩ h
  rcases i with u | j <;> rcases i' with u' | j'
  · cases u; cases u'; obtain rfl := barCell_eq_iff.mp h; rfl
  · exact absurd h (bar_ne_q c c' j')
  · exact absurd h.symm (bar_ne_q c' c j)
  · obtain ⟨rfl, rfl⟩ := qCell_eq_iff.mp h; rfl

theorem tokOf_injective : Function.Injective (tokOf : Dev nD × Tok → GSem nD τ sig × ℕ × Fin 2) := by
  rintro ⟨c, i⟩ ⟨c', i'⟩ h
  have h1 := congrArg Prod.fst h
  have h2 := congrArg (fun x : GSem nD τ sig × ℕ × Fin 2 => x.2.2) h
  rcases i with e | j <;> rcases i' with e' | j'
  · obtain rfl := barCell_eq_iff.mp h1; obtain rfl : e = e' := h2; rfl
  · exact absurd h1 (bar_ne_q c c' j')
  · exact absurd h1.symm (bar_ne_q c' c j)
  · obtain ⟨rfl, rfl⟩ := qCell_eq_iff.mp h1; rfl

def allCells : Finset (GSem nD τ sig) := Finset.univ.map ⟨kcell, kcell_injective⟩
def allToks : Finset (GSem nD τ sig × ℕ × Fin 2) := Finset.univ.map ⟨tokOf, tokOf_injective⟩

def u₀ : UU :=
  (initOf (Pipeline.cells cfgs cellOf_inj) (Pipeline.launchToks cfgs cellOf_inj), initOf allCells allToks)

/-- The duty tokens of device `c`'s own cells. -/
def toks (c : Dev nD) : sProp 𝕄 :=
  iprop((dutyTok ER (barCell c) 0 (0 : Fin 2) ∗ dutyTok ER (barCell c) 0 (1 : Fin 2))
    ∗ (bigSep Finset.univ fun ek : Fin 2 × Fin 4 => dutyTok ER (sCell c ek.1 ek.2) 0 (0 : Fin 2))
    ∗ bigSep Finset.univ fun ek : Fin 2 × Fin 4 => dutyTok ER (rCell c ek.1 ek.2) 0 (0 : Fin 2))

/-- The duty tokens device `c` pays with. -/
def payToks (c : Dev nD) : sProp 𝕄 :=
  iprop((dutyTok ER (barCell (pt 0 c)) 0 (0 : Fin 2) ∗ dutyTok ER (barCell (pt 1 c)) 0 (1 : Fin 2))
    ∗ (bigSep Finset.univ fun ek : Fin 2 × Fin 4 => dutyTok ER (sCell c ek.1 ek.2) 0 (0 : Fin 2))
    ∗ bigSep Finset.univ fun ek : Fin 2 × Fin 4 => dutyTok ER (rCell (pt ek.1 c) ek.1 ek.2) 0 (0 : Fin 2))

/-- What the launch deals device `c`: the state of its cells, its positions, and the tokens of its cells. -/
def G (c : Dev nD) : sProp 𝕄 :=
  iprop((bigSep Finset.univ fun i : Unit ⊕ J => roundState ER (Rd (tblOf m) (idsOf m)) (kcell (c, i)) 0)
    ∗ (bigSep Finset.univ fun i : Unit ⊕ J => iprop(atPos ER (kcell (c, i)) 0 ∅ 0 ∗ reached ER (kcell (c, i)) 0)) ∗ toks c)

/-- What device `c` holds once the cells' invariants are in place. -/
def G' (c : Dev nD) : sProp 𝕄 := iprop(∃ K, ghost m K c)

omit [FloatOps F] in
theorem bigSep_cells (Φ : Unit ⊕ J → sProp 𝕄) : bigSep Finset.univ Φ
    = iprop(Φ (.inl ()) ∗ bigSep Finset.univ fun j : J => Φ (.inr j)) := by
  rw [bigSep_univ_sum, Finset.univ_unique, bigSep_singleton]; rfl

theorem fund_cells : BI.own (ER (initOf allCells allToks)) ⊢ (|==> bigSep Finset.univ (G m) : sProp 𝕄) := by
  have hX (Φ : GSem nD τ sig → sProp 𝕄) : bigSep allCells Φ = bigSep Finset.univ fun c : Dev nD => bigSep Finset.univ fun i : Unit ⊕ J => Φ (kcell (c, i)) := by
    unfold allCells; rw [bigSep_map, bigSep_univ_prod]; rfl
  have hT : bigSep allToks (fun x => (dutyTok ER x.1 x.2.1 x.2.2 : sProp 𝕄)) = bigSep Finset.univ fun c : Dev nD => toks c := by
    unfold allToks; rw [bigSep_map, bigSep_univ_prod]
    exact bigSep_congr fun c _ => by unfold toks; rw [bigSep_univ_sum, bigSep_univ_two, bigSep_J]; rfl
  iintro HX
  imod (Rounds.fund ER (Rd (tblOf m) (idsOf m)) allCells allToks) $$ HX with ⟨Hst, Hr, Hat, Htok⟩
  imodintro
  ihave Hst' := (Entails.of_eq (hX fun g => roundState ER (Rd (tblOf m) (idsOf m)) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

omit [FloatOps F] in
/-- The barrier semaphore is the launch's one semaphore outside the kernel's scope. -/
theorem unscopedSems0_eq (c : Dev nD) : (unscopedSems0 c : sProp 𝕄) = semVal (barCell c) 0 := by
  unfold unscopedSems0; rw [bigSep_eq_bigSepL_of_eq [SemLoc.reg barS] (by decide) (by decide)]; rfl

omit [FloatOps F] in
theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun i : Unit ⊕ J => semVal (kcell (c, i)) 0 : sProp 𝕄) := by
  rw [unscopedSems0_eq, bigSep_cells]
  unfold Pipeline.ownSems0
  iintro ⟨HS, HB⟩
  isplitl [HB] <;> iassumption

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun i => iprop(∃ κ : ℕ, cellInv ER (Rd (tblOf m) (idsOf m)) κ (kcell (c, i))))
          ∗ (bigSep Finset.univ fun i => iprop(atPos ER (kcell (c, i)) 0 ∅ 0 ∗ reached ER (kcell (c, i)) 0)) ∗ toks c) := by
  have alloc : iprop((bigSep Finset.univ fun i : Unit ⊕ J => semVal (kcell (c, i)) 0)
        ∗ bigSep Finset.univ fun i : Unit ⊕ J => roundState ER (Rd (tblOf m) (idsOf m)) (kcell (c, i)) 0)
      ⊢ (|={Set.univ}=> bigSep Finset.univ fun i => iprop(∃ κ : ℕ, cellInv ER (Rd (tblOf m) (idsOf m)) κ (kcell (c, i))) : sProp 𝕄) := by
    rw [← bigSep_sep']
    exact (bigSep_mono fun i _ => (Rounds.body_intro ER (Rd (tblOf m) (idsOf m)) (kcell (c, i))).trans inv_alloc).trans (bigSep_fupd _ _)
  unfold G
  iintro ⟨Hos, Hus, Hst, Hat, Htok⟩
  ihave Hv := (sems0_eq (F := F) c) $$ [Hos Hus]
  · isplitl [Hos] <;> iassumption
  imod alloc $$ [Hv Hst] with Hinv
  · isplitl [Hv] <;> iassumption
  imodintro
  isplitl [Hinv]; · iexact Hinv
  isplitl [Hat]; · iexact Hat
  iexact Htok

/-! ## Dealing the tokens to those who pay with them -/

/-- The partner map of exchange `e`, a bijection that is its own inverse. -/
def ptE (e : Fin 2) : Dev nD ≃ Dev nD := ⟨pt e, pt e, pt_pt e, pt_pt e⟩

omit [FloatOps F] in
/-- The two orders of a separating conjunction over two indices. -/
theorem bigSep_swap {A B : Type} [Fintype A] [Fintype B] (Φ : A → B → sProp 𝕄) :
    (bigSep Finset.univ fun a => bigSep Finset.univ fun b => Φ a b) = bigSep Finset.univ fun b => bigSep Finset.univ fun a => Φ a b := by
  rw [← bigSep_univ_prod fun p : A × B => Φ p.1 p.2, bigSep_univ_equiv (Equiv.prodComm B A), bigSep_univ_prod]; rfl

omit [FloatOps F] in
theorem toks_around : (bigSep Finset.univ fun c : Dev nD => (toks c : sProp 𝕄)) ⊢ bigSep Finset.univ fun c : Dev nD => payToks c := by
  have hr : (bigSep Finset.univ fun c : Dev nD => bigSep Finset.univ fun ek : Fin 2 × Fin 4 => (dutyTok ER (rCell c ek.1 ek.2) 0 (0 : Fin 2) : sProp 𝕄))
      = bigSep Finset.univ fun c : Dev nD => bigSep Finset.univ fun ek : Fin 2 × Fin 4 => dutyTok ER (rCell (pt ek.1 c) ek.1 ek.2) 0 (0 : Fin 2) := by
    rw [bigSep_swap, bigSep_swap fun (c : Dev nD) (ek : Fin 2 × Fin 4) => (dutyTok ER (rCell (pt ek.1 c) ek.1 ek.2) 0 (0 : Fin 2) : sProp 𝕄)]
    exact bigSep_congr fun ek _ => bigSep_univ_equiv (ptE ek.1) _
  unfold toks payToks
  rw [bigSep_sep', bigSep_sep', bigSep_sep', bigSep_sep', bigSep_sep', bigSep_sep', hr,
    bigSep_univ_equiv (ptE 0) (fun c : Dev nD => (dutyTok ER (barCell c) 0 (0 : Fin 2) : sProp 𝕄)),
    bigSep_univ_equiv (ptE 1) (fun c : Dev nD => (dutyTok ER (barCell c) 0 (1 : Fin 2) : sProp 𝕄))]
  exact BI.Entails.refl _

/-- What stays with device `c`: its positions, and the tokens it pays with. -/
def linear (c : Dev nD) : sProp 𝕄 :=
  iprop((bigSep Finset.univ fun i : Unit ⊕ J => atPos ER (kcell (c, i)) 0 ∅ 0) ∗ payToks c)

theorem ghost_intro (K : Dev nD × (Unit ⊕ J) → ℕ) (c : Dev nD) : iprop(records (tblOf m) (idsOf m) K ∗ linear c) ⊢ G' m c := by
  unfold linear payToks G' ghost TT
  rw [bigSep_cells, bigSep_J]
  simp only [bigSep_sep']
  iintro ⟨HR, ⟨HaB, HaS, HaV⟩, ⟨Ht0, Ht1⟩, HtS, HtV⟩
  iexists K
  isplitl [HR]; · iexact HR
  isplitl [HaB]; · iexact HaB
  isplitl [Ht0]; · iexact Ht0
  isplitl [Ht1]; · iexact Ht1
  isplitl [HtS HtV HaS]
  · isplitl [HtS]; · iexact HtS
    isplitl [HtV]; · iexact HtV
    iexact HaS
  iexact HaV

omit [FloatOps F] in
/-- A persistent fact is there for every member of a separating conjunction. -/
theorem bigSep_each {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun i => iprop(∃ κ : ℕ, cellInv ER (Rd (tblOf m) (idsOf m)) κ (kcell (c, i))))
          ∗ (bigSep Finset.univ fun i => iprop(atPos ER (kcell (c, i)) 0 ∅ 0 ∗ reached ER (kcell (c, i)) 0)) ∗ toks c) : sProp 𝕄)
      ⊢ bigSep Finset.univ (G' m) := by
  rw [bigSep_sep', bigSep_sep', ← bigSep_univ_prod (fun ci : Dev nD × (Unit ⊕ J) => iprop(∃ κ : ℕ, cellInv ER (Rd (tblOf m) (idsOf m)) κ (kcell ci))),
    bigSep_congr (s := Finset.univ) (fun (c : Dev nD) _ => bigSep_sep' Finset.univ (fun i : Unit ⊕ J => (atPos ER (kcell (c, i)) 0 ∅ 0 : sProp 𝕄)) (fun i => reached ER (kcell (c, i)) 0)),
    bigSep_sep', ← bigSep_univ_prod (fun ci : Dev nD × (Unit ⊕ J) => (reached ER (kcell ci) 0 : sProp 𝕄))]
  iintro ⟨HI, ⟨Hat, #HR⟩, Htok⟩
  ihave HK := (BI.bigSep_exists_pi Finset.univ (fun (ci : Dev nD × (Unit ⊕ J)) (κ : ℕ) => (cellInv ER (Rd (tblOf m) (idsOf m)) κ (kcell ci) : sProp 𝕄))) $$ HI
  icases HK with ⟨%K, #HI⟩
  ihave Htk := (toks_around (F := F)) $$ Htok
  iapply (bigSep_each (R := records (tblOf m) (idsOf m) K) fun c _ => ghost_intro m K c)
  isplitr
  · unfold records; isplitl; · iexact HI
    iexact HR
  · unfold linear; rw [bigSep_sep']
    isplitl [Hat]; · iexact Hat
    iexact Htk

/-- All devices' semaphores at once become the cells' invariants, and each device holds what its body starts from. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The launch credit -/

theorem q_ne_bar (a b : Dev nD) (j : J) : qCell b j ≠ barCell a := (bar_ne_q a b j).symm

/-- Device `d` owes device `c`'s barrier cell one unit for each exchange in which they are partners. -/
theorem owed_bar (d c : Dev nD) : O₀ d (barCell c) () = (if d = pt 0 c then 1 else 0) + (if d = pt 1 c then 1 else 0) := by
  unfold O₀; rw [sumT_apply]
  simp only [owed₀, List.map_cons, List.map_nil, List.sum_cons, List.sum_nil, barCell_eq_iff, pt_eq_iff, if_neg (bar_ne_q _ _ _), Nat.add_zero]

/-- Device `d` owes device `c`'s receive cell of exchange `e` a chunk's credit if they are partners in it. -/
theorem owed_recv (d c : Dev nD) (e : Fin 2) (k : Fin 4) : O₀ d (rCell c e k) () = if d = pt e c then N else 0 := by
  unfold O₀; rw [sumT_apply]
  simp only [owed₀, List.map_cons, List.map_nil, List.sum_cons, List.sum_nil, if_neg (q_ne_bar _ _ _), qCell_eq_iff, pt_eq_iff]
  fin_cases e <;> fin_cases k <;> simp

theorem launch_bar (c : Dev nD) :
    tallyOn (barCell c) (launchCredit (Pipeline.owing O₀) 0 (barCell c)) = (tallyAt (barCell c) () 2 : CellTallies nD τ sig Unit) := by
  unfold tallyAt; refine congrArg _ (Finsupp.ext fun u => ?_); cases u
  rw [Pipeline.launchCredit_owing, Finsupp.single_eq_same, Finset.sum_congr rfl fun d _ => owed_bar d c, Finset.sum_add_distrib,
    Finset.sum_ite_eq' Finset.univ (pt 0 c) fun _ => 1, Finset.sum_ite_eq' Finset.univ (pt 1 c) fun _ => 1, if_pos (Finset.mem_univ _), if_pos (Finset.mem_univ _)]

theorem launch_recv (c : Dev nD) (e : Fin 2) (k : Fin 4) :
    tallyOn (rCell c e k) (launchCredit (Pipeline.owing O₀) 0 (rCell c e k)) = (tallyAt (rCell c e k) () N : CellTallies nD τ sig Unit) := by
  unfold tallyAt; refine congrArg _ (Finsupp.ext fun u => ?_); cases u
  rw [Pipeline.launchCredit_owing, Finsupp.single_eq_same, Finset.sum_congr rfl fun d _ => owed_recv d c e k, Finset.sum_ite_eq' Finset.univ (pt e c) fun _ => N,
    if_pos (Finset.mem_univ _)]

omit [FloatOps F] in
theorem creds (c : Dev nD) : (Pipeline.launchCred O₀ c : sProp 𝕄) ⊢ credits (F := F) c := by
  unfold Pipeline.launchCred credits
  rw [bigSep_univ_at _ (SemLoc.reg barS), launch_bar]
  refine sep_mono_right ?_
  have hinj : Function.Injective (fun ek : Fin 2 × Fin 4 => (osem (1, ek) : SemLoc sig)) := fun a b h => by
    have h1 := (qCell_eq_iff (a := c) (b := c)).mp (congrArg (fun s : SemLoc sig => ((c : Thread nD τ), s)) h)
    exact congrArg (fun j : J => j.2) h1.2
  have hsub : (Finset.univ.map ⟨_, hinj⟩ : Finset (SemLoc sig)) ⊆ Finset.univ.erase (.reg barS) := fun x hx => by
    obtain ⟨ek, -, rfl⟩ := Finset.mem_map.mp hx
    exact Finset.mem_erase.mpr ⟨(by intro h; cases h), Finset.mem_univ _⟩
  refine (bigSep_subset hsub).trans ?_
  rw [bigSep_map]
  exact Entails.of_eq (bigSep_congr fun ek _ => congrArg cred (launch_recv c ek.1 ek.2))

/-! ## The launch theorem's side conditions -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  iintro ⟨-, Hlev, Hcr, -, HG⟩
  ihave Hc := (creds (F := F) c) $$ Hcr
  imodintro
  unfold start G'
  isplitl
  · isplitl [HG]; · iexact HG
    isplitl [Hc]; · iexact Hc
    iexact Hlev
  · iempintro

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scopedRest0_eq]
  unfold Φ₀
  iintro ⟨Hs, -, Hr⟩
  isplitl [Hs] <;> iassumption

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ m c from rfl, scopedRest0_eq, unscopedSems0_eq]
  unfold Φ₁ Pipeline.ownSems0
  iintro ⟨Hr, HzB, Hz⟩
  isplitl [HzB]; · iexact HzB
  isplitl [Hz]; · iexact Hz
  iexists (commOf m c); iexact Hr

theorem waits (c : Dev nD) : (levAts L lv : sProp 𝕄) ⊢ Pipeline.cellsWaits cfgs (dats m ρ) () 0 c :=
  Pipeline.cellsWaits_intro cfgs (dats m ρ) () 0 c fun w s t => by
    have hw : lv (((c : Dev nD) : Thread nD τ), .dma (((cfgs 0).win w).sem s)) () ≤ 0 := by
      fin_cases w <;> fin_cases s <;> revert c <;> decide
    rcases t with ⟨_ | _, ht⟩
    · exact mayWait_above c _ 0 (owed₀ c) hw (above_owed₀ c)
    · exact mayWait_above c _ 0 [] hw trivial

/-! ## The run -/

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- For any float values, from any memory with zero counters: every weakly fair execution of the kernel's program on the
    four devices terminates, with each device's arrays at their final contents and every semaphore counter zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m) (G' := G' m) (u₀ := u₀)
    (hu₀ := by
      unfold u₀
      iintro Hu
      ihave H := (ownU_pair _ _) $$ Hu
      icases H with ⟨HP, HX⟩
      imod (fund_cells m) $$ HX with HG
      imodintro
      isplitl [HP] <;> iassumption)
    (hglob := glob m)
    (hA := fun _ _ => rfl) (hpf := fun _ k => k.elim0)
    (X := start m) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The inputs after the run hold what they held. -/
theorem finalA_tbl (c : Dev nD) : finalA m ρ c (0 : Fin 3) = (s₀ m ρ).mem (win0_0.arr.view.loc (c : Thread nD τ)) :=
  (dats (F := F) m ρ 0 c).arrAt_in (0 : Fin 3) rfl _
theorem finalA_ids (c : Dev nD) : finalA m ρ c (1 : Fin 3) = (s₀ m ρ).mem (win0_1.arr.view.loc (c : Thread nD τ)) :=
  (dats (F := F) m ρ 0 c).arrAt_in (1 : Fin 3) rfl _

end Cert.Exchange

end
-- ==== Proof.Result.lean ====
/-
# The arrays after a run

Each device's two inputs and its result are windows of one block, the whole array. So what is staged of an input is
the input, and the result array ends holding the result buffer: `run_read` states the run with the three arrays named.
-/
module

public import proofs.«01_k».proof.Proof.Launch
public import proofs.«01_k».proof.Proof.Gen.KernelIdeal.Points

@[expose] public section

noncomputable section

namespace Cert.Exchange

open Cert.KernelIdeal Cert.KernelIdeal.Gen
open Idealize.ShloMosaic
open Idealize.ShloMosaic.TcCoe
open Idealize.SL.Sem

variable {F : FTy → Type} [FloatOps F]
variable (m : (ℓ : Loc nD τ sig) → Buf (Elt F) ℓ) (ρ : Dev nD → PrngReg)

/-- What is staged of a device's table rows and indices is the whole of them. -/
theorem tblOf_eq (c : Dev nD) : tblOf m c = m ((c : Thread nD τ).loc main_arg0) :=
  Memref.read_access_unit_zero (Elt F) main_arg0
    (show (fun a => win0_0.index t0_0 a * main_arg0.ty.shape.size a) = fun _ => 0 from funext fun a => Nat.zero_mul _) _ _
theorem idsOf_eq (c : Dev nD) : idsOf m c = m ((c : Thread nD τ).loc main_arg1) :=
  Memref.read_access_unit_zero (Elt F) main_arg1
    (show (fun a => win0_1.index t0_0 a * main_arg1.ty.shape.size a) = fun _ => 0 from funext fun a => Nat.zero_mul _) _ _

/-- The result array after the run is the result buffer. -/
theorem finalA_out (c : Dev nD) : finalA m ρ c (2 : Fin 3) = outOf m c := by
  have hw : ((cfg0.win 2).blk t0_0).view.read (Elt F) (finalA m ρ c (2 : Fin 3)) = (dats m ρ 0 c).flushed 2 t0_0 := by
    unfold finalA
    rw [show cfg0.N = t0_0.val + 1 from rfl, (dats m ρ 0 c).arrAt_succ (2 : Fin 3) t0_0, flush0_2, if_pos rfl]
    exact View.read_write_univ _ _
  have hr : ((cfg0.win 2).blk t0_0).view.read (Elt F) (finalA m ρ c (2 : Fin 3)) = finalA m ρ c (2 : Fin 3) :=
    Memref.read_access_unit_zero (Elt F) main_v1
    (show (fun a => win0_2.index t0_0 a * main_v1.ty.shape.size a) = fun _ => 0 from funext fun a => Nat.zero_mul _) _ _
  exact hr.symm.trans (hw.trans rfl)

/-- For any float values, from any memory with zero counters: every weakly fair execution terminates with each device's
    result as computed, its inputs as they were, and every semaphore counter zero. -/
theorem run_read : θ_run defs (onTc (τ := τ) (main (F := F))) ⟨m, fun _ => 0, ρ⟩ (fun r =>
    (∀ c : Dev nD,
      r.2.mem ((c : Thread nD τ).loc main_v1)
          = outAt (fun c => m ((c : Thread nD τ).loc main_arg0)) (fun c => m ((c : Thread nD τ).loc main_arg1)) c
      ∧ r.2.mem ((c : Thread nD τ).loc main_arg0) = m ((c : Thread nD τ).loc main_arg0)
      ∧ r.2.mem ((c : Thread nD τ).loc main_arg1) = m ((c : Thread nD τ).loc main_arg1))
    ∧ r.2.sem = fun _ => 0) := by
  refine (θ_run defs _ _).mono (fun r h => ⟨fun c => ⟨?_, ?_, ?_⟩, h.2⟩) (run_main m ρ)
  · refine (h.1 c (2 : Fin 3)).trans ((finalA_out m ρ c).trans ?_)
    show outAt (tblOf m) (idsOf m) c = _
    rw [funext (tblOf_eq m), funext (idsOf_eq m)]
  · exact (h.1 c (0 : Fin 3)).trans (finalA_tbl m ρ c)
  · exact (h.1 c (1 : Fin 3)).trans (finalA_ids m ρ c)

/-- The same run, of the inputs and the semaphores only. -/
theorem run_frame : θ_run defs (onTc (τ := τ) (main (F := F))) ⟨m, fun _ => 0, ρ⟩ (fun r =>
    (∀ c : Dev nD,
      r.2.mem ((c : Thread nD τ).loc main_arg0) = m ((c : Thread nD τ).loc main_arg0)
      ∧ r.2.mem ((c : Thread nD τ).loc main_arg1) = m ((c : Thread nD τ).loc main_arg1))
    ∧ r.2.sem = fun _ => 0) :=
  (θ_run defs _ _).mono (fun _ h => ⟨fun c => (h.1 c).2, h.2⟩) (run_read m ρ)

end Cert.Exchange

end
-- ==== Proof.Values.lean ====
/-
# The value of the exchange at exact arithmetic

At exact arithmetic a one-hot matrix times the table rows of one device picks out one row, or gives zero where the row
asked for lies on another device. The four partial answers the exchange adds up have therefore exactly one nonzero
term: the row of the whole table that the index names. `outAt_eq` states this for every device, for indices from 0 to 8191.
No entry of the table is assumed finite: zero times any entry is zero, and zero plus any entry is that entry.
-/
module

public import proofs.«01_k».proof.Proof.Contents
public import Idealize.ShloMosaic.Lib.ValueIdx
public import Idealize.ShloMosaic.Lib.ValueLayout
public import Idealize.ShloMosaic.Lib.Layout
public import Idealize.ShloMosaic.PureOps.Ideal.Laws

@[expose] public section

noncomputable section

namespace Cert.Exchange

open Cert.KernelIdeal Cert.KernelIdeal.Gen
open Idealize.ShloMosaic
open Idealize.ShloMosaic.TcCoe
open Idealize.ShloMosaic.ValueIdx
open scoped BigOperators

/-! ## The product over the table's rows -/

/-- The product that contracts the first axis of both operands, read at `(r, d)`: a sum over the 2048 rows. -/
theorem matmul_rows (prec : Option ContractPrecision) (x : FVec Ideal S2048x128 .bf16) (y : FVec Ideal S2048x256 .bf16)
    (r : Fin 128) (d : Fin 256) :
    FloatOps.matmul dot_S2048x128_S2048x256_S128x256_0_0_1_1_n_n prec x y (constant S128x256 .f32 0x00000000#32) (ix2 r d)
      = ∑ v : Fin 2048, x (ix2 v r) * y (ix2 v d) := by
  rw [Ideal.matmul_constant_zero_apply,
    ← Equiv.sum_comp (contrEquiv1 dot_S2048x128_S2048x256_S128x256_0_0_1_1_n_n 2048 rfl rfl).symm]
  refine Finset.sum_congr rfl fun v _ => ?_
  have hv := contrEquiv1_symm_val dot_S2048x128_S2048x256_S128x256_0_0_1_1_n_n 2048 rfl rfl v
  have el : dot_S2048x128_S2048x256_S128x256_0_0_1_1_n_n.lhsIdx (ix2 r d)
      ((contrEquiv1 dot_S2048x128_S2048x256_S128x256_0_0_1_1_n_n 2048 rfl rfl).symm v) = ix2 v r := by
    funext a; apply Fin.ext
    match a with
    | ⟨0, _⟩ => exact hv
    | ⟨1, _⟩ => rfl
  have er : dot_S2048x128_S2048x256_S128x256_0_0_1_1_n_n.rhsIdx (ix2 r d)
      ((contrEquiv1 dot_S2048x128_S2048x256_S128x256_0_0_1_1_n_n 2048 rfl rfl).symm v) = ix2 v d := by
    funext a; apply Fin.ext
    match a with
    | ⟨0, _⟩ => exact hv
    | ⟨1, _⟩ => rfl
  rw [el, er]

/-- A truth bit widened and converted is 1 or 0. -/
theorem bit_value (b : BitVec 1) : (FloatOps.sitofp .f32 (b.setWidth 32) : Ideal .f32) = if b = 1#1 then (1 : EReal) else 0 := by
  rcases (by revert b; decide : b = 0#1 ∨ b = 1#1) with rfl | rfl
  · show (((((0#1).setWidth 32).toInt : ℤ) : ℝ) : EReal) = _
    rw [show ((0#1).setWidth 32 : BitVec 32).toInt = 0 by decide]; simp
  · show (((((1#1).setWidth 32).toInt : ℤ) : ℝ) : EReal) = _
    rw [show ((1#1).setWidth 32 : BitVec 32).toInt = 1 by decide]; simp

/-- The one-hot matrix of a row of words: 1 where the row number is the word, 0 elsewhere. -/
def oneHot (w : IVec S1x128 32) : FVec Ideal S2048x128 .bf16 :=
  truncf .bf16 (sitofp .f32 (extui 32 (cmpi .eq (iota .tc S2048x128 32 [0] iota_S2048x128_d0_w32)
    (broadcastTo S2048x128 w broadcasts_S1x128_S2048x128)) natLt_1_32)) bitsLt_bf16_f32

theorem oneHot_apply (w : IVec S1x128 32) (v : Fin 2048) (r : Fin 128) :
    oneHot w (ix2 v r) = if BitVec.ofNat 32 v.val = w (ix2 (0 : Fin 1) r) then (1 : EReal) else 0 := by
  have hb : broadcastTo S2048x128 w broadcasts_S1x128_S2048x128 (ix2 v r) = w (ix2 (0 : Fin 1) r) :=
    broadcastTo_1b_ab_apply w _ v r
  have hi : iota .tc S2048x128 32 [0] iota_S2048x128_d0_w32 (ix2 v r) = BitVec.ofNat 32 v.val := by
    show BitVec.ofNat 32 (0 * 2048 + v.val) = _
    rw [Nat.zero_mul, Nat.zero_add]
  refine (bit_value (cmpi .eq (iota .tc S2048x128 32 [0] iota_S2048x128_d0_w32)
    (broadcastTo S2048x128 w broadcasts_S1x128_S2048x128) (ix2 v r))).trans ?_
  show (if IntOp.cmpi .eq (iota .tc S2048x128 32 [0] iota_S2048x128_d0_w32 (ix2 v r))
    (broadcastTo S2048x128 w broadcasts_S1x128_S2048x128 (ix2 v r)) = 1#1 then (1 : EReal) else 0) = _
  rw [hb, hi]
  by_cases h : BitVec.ofNat 32 v.val = w (ix2 (0 : Fin 1) r)
  · rw [if_pos h, if_pos]; simp [IntOp.cmpi, h]
  · rw [if_neg h, if_neg]
    rw [show IntOp.cmpi .eq (BitVec.ofNat 32 v.val) (w (ix2 (0 : Fin 1) r)) = BitVec.ofBool (BitVec.ofNat 32 v.val == w (ix2 (0 : Fin 1) r)) from rfl,
      beq_eq_false_iff_ne.mpr h]
    decide

/-! ## One partial answer -/

/-- The indices of a device, counted from its first row. -/
theorem local_apply (c : Dev nD) (x : Vec Ideal S512 .i32) (j : Fin 512) :
    k0_pay2 (F := Ideal) c x (ix2 (0 : Fin 1) j) = x (ix1 j) - BitVec.ofNat 32 (2048 * c.val) := by
  have h1 : shapeCast S1x512 (shapeCast S512 x shapeCasts_S512_S512) shapeCasts_S512_S1x512 (ix2 (0 : Fin 1) j) = x (ix1 j) :=
    (shapeCast_a_1a_apply _ _ _ _).trans (shapeCast_apply x _ _ _ rfl)
  have h2 : Scalar.muli (Scalar.remsi (Scalar.divsi (Dev.word c) 1#32) 4#32) 2048#32 = BitVec.ofNat 32 (2048 * c.val) := by
    revert c; decide
  show shapeCast S1x512 (shapeCast S512 x shapeCasts_S512_S512) shapeCasts_S512_S1x512 (ix2 (0 : Fin 1) j)
    - Scalar.muli (Scalar.remsi (Scalar.divsi (Dev.word c) 1#32) 4#32) 2048#32 = _
  rw [h1, h2]

/-- The 128 words from the `o`-th on. -/
theorem cut_apply (o : ℕ) (w : IVec S1x512 32) (h : S1x512.Slices ![0, o] S1x128) (r : Fin 128) (j : Fin 512)
    (hj : j.val = o + r.val) : extractStridedSlice S1x128 ![0, o] w h (ix2 (0 : Fin 1) r) = w (ix2 (0 : Fin 1) j) :=
  slice2_axis1_apply o w h (0 : Fin 1) r j hj

theorem rows_apply (x : Vec Ideal S2048x256 .bf16) (i : S2048x256.Idx) : k0_pay1 x i = x i :=
  shapeCast_apply x _ _ _ rfl

/-- A partial answer, from the word `b` of its index among the 512. -/
theorem picked (o : ℕ) (w : IVec S1x512 32) (h : S1x512.Slices ![0, o] S1x128) (x : Vec Ideal S2048x256 .bf16) (r : Fin 128)
    (d : Fin 256) (j : Fin 512) (hj : j.val = o + r.val) (b : BitVec 32) (hb : w (ix2 (0 : Fin 1) j) = b) :
    shapeCast S1x128x256 (truncf .bf16 (matmul dot_S2048x128_S2048x256_S128x256_0_0_1_1_n_n none
        (oneHot (extractStridedSlice S1x128 ![0, o] w h)) (k0_pay1 x)
        (constant S128x256 .f32 0x00000000#32)) bitsLt_bf16_f32) shapeCasts_S128x256_S1x128x256 (ix3 (0 : Fin 1) r d)
      = ∑ v : Fin 2048, (if BitVec.ofNat 32 v.val = b then (1 : EReal) else 0) * x (ix2 v d) := by
  refine (shapeCast_ab_1ab_apply _ _ _ _ _).trans ((matmul_rows none _ (k0_pay1 x) r d).trans ?_)
  exact Finset.sum_congr rfl fun v _ => by rw [oneHot_apply, rows_apply, cut_apply o w h r j hj, hb]

variable (tbl : Dev nD → Vec Ideal S2048x256 .bf16) (ids : Dev nD → Vec Ideal S512 .i32)

/-- Device `c`'s partial answer for index `128 k + r` is the sum over its rows of the row, where its number is the index
    counted from the device's first row, and zero elsewhere. -/
theorem part_apply (c : Dev nD) (k : Fin 4) (r : Fin 128) (d : Fin 256) (j : Fin 512) (hj : j.val = 128 * k.val + r.val) :
    part tbl ids c k (ix3 (0 : Fin 1) r d)
      = ∑ v : Fin 2048, (if BitVec.ofNat 32 v.val = ids c (ix1 j) - BitVec.ofNat 32 (2048 * c.val) then (1 : EReal) else 0)
          * tbl c (ix2 v d) := by
  have hb := local_apply c (ids c) j
  unfold part
  unfold k0_pay3
  generalize k0_pay2 (F := Ideal) c (ids c) = w at hb ⊢
  match k, hj with
  | 0, hj => exact picked 0 w slices_S1x512_o0_0_S1x128 (tbl c) r d j (by simpa using hj) _ hb
  | 1, hj => exact picked 128 w slices_S1x512_o0_128_S1x128 (tbl c) r d j (by simpa using hj) _ hb
  | 2, hj => exact picked 256 w slices_S1x512_o0_256_S1x128 (tbl c) r d j (by simpa using hj) _ hb
  | 3, hj => exact picked 384 w slices_S1x512_o0_384_S1x128 (tbl c) r d j (by simpa using hj) _ hb

/-- A row number is an in-range index counted from device `c`'s first row exactly when the two add up. -/
theorem hit_iff (b : BitVec 32) (hb : b.toNat < 8192) (c : Dev nD) (v : Fin 2048) :
    BitVec.ofNat 32 v.val = b - BitVec.ofNat 32 (2048 * c.val) ↔ v.val + 2048 * c.val = b.toNat := by
  have hv := v.isLt
  have hc : c.val < 4 := c.isLt
  rw [← BitVec.toNat_inj, BitVec.toNat_sub, BitVec.toNat_ofNat, BitVec.toNat_ofNat]
  omega

/-- A sum of rows, each weighed by whether its number is the index: the row, where this device holds it, else zero. -/
theorem pick_sum (f : Fin 2048 → EReal) (b : BitVec 32) (hb : b.toNat < 8192) (c : Dev nD) :
    (∑ v : Fin 2048, (if BitVec.ofNat 32 v.val = b - BitVec.ofNat 32 (2048 * c.val) then (1 : EReal) else 0) * f v)
      = if b.toNat / 2048 = c.val then f ⟨b.toNat % 2048, Nat.mod_lt _ (by decide)⟩ else 0 := by
  by_cases h : b.toNat / 2048 = c.val
  · rw [if_pos h, Finset.sum_eq_single (⟨b.toNat % 2048, Nat.mod_lt _ (by decide)⟩ : Fin 2048)]
    · rw [if_pos ((hit_iff b hb c _).mpr (by show b.toNat % 2048 + _ = _; omega)), one_mul]
    · intro v _ hne
      rw [if_neg, zero_mul]
      intro hv
      have := (hit_iff b hb c v).mp hv
      have hlt := v.isLt
      exact hne (Fin.ext (by show v.val = b.toNat % 2048; omega))
    · intro hn; exact absurd (Finset.mem_univ _) hn
  · rw [if_neg h]
    refine Finset.sum_eq_zero fun v _ => ?_
    rw [if_neg, zero_mul]
    intro hv
    have := (hit_iff b hb c v).mp hv
    have hlt := v.isLt
    exact h (by omega)

/-! ## The sum of the four -/

/-- Over a device, its first partner, its second, and its second's first, a term that only device `q` has is there once. -/
theorem one_of_four (c : Dev nD) (q : ℕ) (hq : q < 4) (X : EReal) :
    ((if q = c.val then X else 0) + (if q = (pt 0 c).val then X else 0))
      + ((if q = (pt 1 c).val then X else 0) + (if q = (pt 0 (pt 1 c)).val then X else 0)) = X := by
  have hall : ∀ (c : Fin 4) (q : Fin 4),
      (q.val = c.val ∧ q.val ≠ (pt 0 c).val ∧ q.val ≠ (pt 1 c).val ∧ q.val ≠ (pt 0 (pt 1 c)).val)
      ∨ (q.val ≠ c.val ∧ q.val = (pt 0 c).val ∧ q.val ≠ (pt 1 c).val ∧ q.val ≠ (pt 0 (pt 1 c)).val)
      ∨ (q.val ≠ c.val ∧ q.val ≠ (pt 0 c).val ∧ q.val = (pt 1 c).val ∧ q.val ≠ (pt 0 (pt 1 c)).val)
      ∨ (q.val ≠ c.val ∧ q.val ≠ (pt 0 c).val ∧ q.val ≠ (pt 1 c).val ∧ q.val = (pt 0 (pt 1 c)).val) := by decide
  rcases hall c ⟨q, hq⟩ with ⟨h0, h1, h2, h3⟩ | ⟨h0, h1, h2, h3⟩ | ⟨h0, h1, h2, h3⟩ | ⟨h0, h1, h2, h3⟩
  · rw [if_pos h0, if_neg h1, if_neg h2, if_neg h3]; simp
  · rw [if_neg h0, if_pos h1, if_neg h2, if_neg h3]; simp
  · rw [if_neg h0, if_neg h1, if_pos h2, if_neg h3]; simp
  · rw [if_neg h0, if_neg h1, if_neg h2, if_pos h3]; simp

theorem add3_apply (x y : FVec Ideal S1x128x256 .bf16) (r : Fin 128) (d : Fin 256) :
    add3 x y (ix3 (0 : Fin 1) r d) = (x (ix3 (0 : Fin 1) r d) + y (ix3 (0 : Fin 1) r d) : EReal) := by
  unfold add3 k0_pay8
  refine (shapeCast_ab_1ab_apply _ _ _ _ _).trans ?_
  refine (addf_apply _ _ _).trans ?_
  exact congrArg₂ (fun a b : EReal => a + b) (shapeCast_1ab_ab_apply x _ r d) (shapeCast_1ab_ab_apply y _ r d)

theorem sum_apply (x y : FVec Ideal S1x128x256 .bf16) (r : Fin 128) (d : Fin 256) :
    k0_pay13 x y (ix2 r d) = (x (ix3 (0 : Fin 1) r d) + y (ix3 (0 : Fin 1) r d) : EReal) := by
  refine (addf_apply _ _ _).trans ?_
  exact congrArg₂ (fun a b : EReal => a + b) (shapeCast_1ab_ab_apply x _ r d) (shapeCast_1ab_ab_apply y _ r d)

/-- A partial answer where the devices hold blocks of one table and the same in-range indices. -/
theorem part_eq (T : (⟨2, ![8192, 256]⟩ : Shape).Idx → EReal) (I : S512.Idx → BitVec 32)
    (ht : ∀ c, tbl c = Layout.block ⟨2, ![2048, 256]⟩ ⟨2, ![8192, 256]⟩ 0 4 c T) (hi : ∀ c, ids c = I)
    (hI : ∀ j, (I j).toNat < 8192) (c : Dev nD) (k : Fin 4) (r : Fin 128) (d : Fin 256) (j : Fin 512)
    (hj : j.val = 128 * k.val + r.val) :
    part tbl ids c k (ix3 (0 : Fin 1) r d)
      = if (I (ix1 j)).toNat / 2048 = c.val then T (ix2 (⟨(I (ix1 j)).toNat, hI _⟩ : Fin 8192) d) else (0 : EReal) := by
  rw [part_apply tbl ids c k r d j hj, hi, pick_sum (fun v => tbl c (ix2 v d)) _ (hI _) c]
  by_cases h : (I (ix1 j)).toNat / 2048 = c.val
  · rw [if_pos h, if_pos h, ht]
    refine congrArg T ?_
    funext a; apply Fin.ext
    match a with
    | ⟨0, _⟩ =>
      show c.val * 2048 + (I (ix1 j)).toNat % 2048 = (I (ix1 j)).toNat
      omega
    | ⟨1, _⟩ => rfl
  · rw [if_neg h, if_neg h]

/-- Every device's result is the rows of the whole table its indices name. -/
theorem outAt_eq (T : (⟨2, ![8192, 256]⟩ : Shape).Idx → EReal) (I : S512.Idx → BitVec 32)
    (ht : ∀ c, tbl c = Layout.block ⟨2, ![2048, 256]⟩ ⟨2, ![8192, 256]⟩ 0 4 c T) (hi : ∀ c, ids c = I)
    (hI : ∀ j, (I j).toNat < 8192) (c : Dev nD) (j : Fin 512) (d : Fin 256) :
    outAt tbl ids c (ix2 j d) = T (ix2 (⟨(I (ix1 j)).toNat, hI _⟩ : Fin 8192) d) := by
  have hjlt := j.isLt
  have hj : j.val = 128 * (⟨j.val / 128, by omega⟩ : Fin 4).val + (⟨j.val % 128, Nat.mod_lt _ (by decide)⟩ : Fin 128).val := by
    show j.val = 128 * (j.val / 128) + j.val % 128; omega
  have hp := fun e => part_eq tbl ids T I ht hi hI e ⟨j.val / 128, by omega⟩ ⟨j.val % 128, Nat.mod_lt _ (by decide)⟩ d j hj
  show k0_pay13 (add3 (part tbl ids c _) (part tbl ids (pt 0 c) _)) (add3 (part tbl ids (pt 1 c) _) (part tbl ids (pt 0 (pt 1 c)) _)) (ix2 _ _) = _
  refine (sum_apply _ _ _ _).trans ?_
  rw [add3_apply, add3_apply]
  refine (congrArg₂ (fun a b : EReal => a + b) (congrArg₂ (fun a b : EReal => a + b) (hp c) (hp (pt 0 c)))
    (congrArg₂ (fun a b : EReal => a + b) (hp (pt 1 c)) (hp (pt 0 (pt 1 c))))).trans ?_
  exact one_of_four c _ (by have := hI (ix1 j); omega) _

end Cert.Exchange

end
-- ==== Proof.Lookup.lean ====
/-
# The reference's lookup, and the precondition, read at an index

The reference looks up rows of the table by index. It first adds 8192 to a negative index, and the lookup itself clamps
an index into 0 to 8191. For an index already in that range neither changes anything (`lookup_apply`). The
precondition says that every index is in that range (`index_lt`).
-/
module

public import proofs.«01_k».proof.Proof.Gen.ReferenceIdeal
public import proofs.«01_k».proof.Proof.Gen.Pre_in_range_KernelIdeal
public import Idealize.ShloMosaic.Lib.ValueIdx
public import Idealize.ShloMosaic.Lib.Pipeline.Value

@[expose] public section

noncomputable section

namespace Cert.Lookup

open Cert.ReferenceIdeal Cert.ReferenceIdeal.Gen
open Idealize.ShloMosaic
open Idealize.ShloMosaic.ValueIdx

variable {α : Type}

/-- The lookup of whole rows by a column of start indices, read at `(j, d)`: the start index, read signed and clamped,
    names the row. -/
theorem gather_rows (x : S8192x256.Idx → α) (idx : IVec S512x1 32) (j : Fin 512) (d : Fin 256) :
    Host.gather gather_S8192x256_S512x1_S512x256_1_0_n_n_0_1_1256 x idx (ix2 j d)
      = x (ix2 (⟨min (idx (ix2 j (0 : Fin 1))).toInt.toNat 8191, by omega⟩ : Fin 8192) d) := by
  unfold Host.gather
  refine congrArg x ?_
  funext a
  refine Fin.ext ?_
  show (gather_S8192x256_S512x1_S512x256_1_0_n_n_0_1_1256).start (ix2 j d) idx a
    + (gather_S8192x256_S512x1_S512x256_1_0_n_n_0_1_1256).batchCoord (ix2 j d) a
    + (gather_S8192x256_S512x1_S512x256_1_0_n_n_0_1_1256).offCoord (ix2 j d) a = _
  rw [GatherDims.batchCoord_eq_zero _ _ _ List.not_mem_nil, Nat.add_zero]
  rcases (by match a with | ⟨0, _⟩ => exact Or.inl rfl | ⟨1, _⟩ => exact Or.inr rfl : a = 0 ∨ a = 1) with rfl | rfl
  · rw [GatherDims.offCoord_eq_zero _ _ _ (fun h => ((GatherDims.mem_sKept _ _).mp h).1 (List.mem_singleton.mpr rfl)), Nat.add_zero]
    unfold GatherDims.start
    rw [dif_pos (show (0 : Fin 2) ∈ (gather_S8192x256_S512x1_S512x256_1_0_n_n_0_1_1256).startIndexMap from List.mem_singleton.mpr rfl)]
    have hs : (gather_S8192x256_S512x1_S512x256_1_0_n_n_0_1_1256).siIdx (ix2 j d)
        ⟨List.idxOf (0 : Fin 2) (gather_S8192x256_S512x1_S512x256_1_0_n_n_0_1_1256).startIndexMap,
          List.idxOf_lt_length_iff.2 (List.mem_singleton.mpr rfl)⟩ = ix2 j (0 : Fin 1) := by
      funext b; refine Fin.ext ?_
      match b with
      | ⟨0, _⟩ => rfl
      | ⟨1, _⟩ => rfl
    exact congrArg (fun i => min (idx i).toInt.toNat 8191) hs
  · have h0 : (gather_S8192x256_S512x1_S512x256_1_0_n_n_0_1_1256).start (ix2 j d) idx (1 : Fin 2) = 0 := by
      unfold GatherDims.start
      rw [dif_neg (by decide)]
    refine (congrArg (· + _) h0).trans ((Nat.zero_add _).trans ?_)
    rfl

/-- The indices the reference looks up, before the lookup clamps them. -/
abbrev wrapped (I : IVec S512 32) : IVec S512x1 32 :=
  broadcastInDim S512x1 ![0] bcast_S512_S512x1_0
    (select (cmpi .slt I (broadcastInDim S512 ![] bcast_S_S512 (constantI S_ 32 0#32)))
      (addi I (broadcastInDim S512 ![] bcast_S_S512 (constantI S_ 32 8192#32))) I)

/-- An index below 8192 is left alone. -/
theorem wrapped_apply (I : IVec S512 32) (j : Fin 512) (hI : (I (ix1 j)).toNat < 8192) :
    wrapped I (ix2 j (0 : Fin 1)) = I (ix1 j) := by
  refine (broadcastInDim_apply ![0] bcast_S512_S512x1_0 _ (ix2 j (0 : Fin 1)) (ix1 j) (fun a => ?_)).trans ?_
  · match a with
    | ⟨0, _⟩ => rfl
  · show Scalar.select (IntOp.cmpi .slt (I (ix1 j)) 0#32) _ (I (ix1 j)) = _
    have hc : IntOp.cmpi .slt (I (ix1 j)) 0#32 = 0#1 := by
      refine eq_zero_of_ne_one fun h => ?_
      have hlt : (I (ix1 j)).toInt < 0 := by
        have : BitVec.ofBool ((I (ix1 j)).slt 0#32) = 1#1 := h
        by_contra hn
        rw [show (I (ix1 j)).slt 0#32 = false from decide_eq_false hn] at this
        exact absurd this (by decide)
      rw [BitVec.toInt_eq_toNat_of_lt (by omega)] at hlt
      omega
    rw [hc]; rfl

/-- The reference's result at `(j, d)`, for an index below 8192: entry `d` of the row the index names. -/
theorem lookup_apply (x : S8192x256.Idx → α) (I : IVec S512 32) (hI : ∀ j, (I j).toNat < 8192) (j : Fin 512) (d : Fin 256) :
    Host.gather gather_S8192x256_S512x1_S512x256_1_0_n_n_0_1_1256 x (wrapped I) (ix2 j d)
      = x (ix2 (⟨(I (ix1 j)).toNat, hI _⟩ : Fin 8192) d) := by
  rw [gather_rows]
  refine congrArg (fun r : Fin 8192 => x (ix2 r d)) (Fin.ext ?_)
  show min (wrapped I (ix2 j (0 : Fin 1))).toInt.toNat 8191 = (I (ix1 j)).toNat
  have h := hI (ix1 j)
  rw [wrapped_apply I j h, BitVec.toInt_eq_toNat_of_lt (by omega)]
  omega

/-! ## The precondition -/

/-- Where the precondition holds of a device's blocks, every index is below 8192, read unsigned. -/
theorem index_lt (x : FVec Ideal Cert.Pre_in_range_KernelIdeal.S2048x256 .bf16) (I : IVec Cert.Pre_in_range_KernelIdeal.S512 32)
    (h : Cert.Pre_in_range_KernelIdeal.fn (F := Ideal) x I = fun _ => 1#1) (j : Cert.Pre_in_range_KernelIdeal.S512.Idx) :
    (I j).toNat < 8192 := by
  have hj : BitVec.ofBool ((0#32).sle (I j)) &&& BitVec.ofBool ((I j).slt 8192#32) = 1#1 := congrFun h j
  have h0 : (0#32).sle (I j) = true := by
    cases hb : (0#32).sle (I j)
    · rw [hb] at hj; revert hj; cases (I j).slt 8192#32 <;> decide
    · rfl
  have h1 : (I j).slt 8192#32 = true := by
    cases hb : (I j).slt 8192#32
    · rw [hb] at hj; revert hj; cases (0#32).sle (I j) <;> decide
    · rfl
  have a0 : (0#32).toInt ≤ (I j).toInt := of_decide_eq_true h0
  have a1 : (I j).toInt < (8192#32).toInt := of_decide_eq_true h1
  rw [show (0#32).toInt = 0 by decide] at a0
  rw [show (8192#32).toInt = 8192 by decide] at a1
  have := BitVec.toInt_eq_toNat_cond (I j)
  split at this <;> omega

end Cert.Lookup

end
-- ==== Proof.lean ====
/-
# The proof of the claims

The kernel looks up 512 rows of a table that four devices hold in blocks, and leaves the same result on every device.
The pieces come from the modules under `Proof/`:

* `Contents` names what each buffer holds, and `Protocol`, `Steps`, `Body`, `Launch` run the exchange on four devices;
* `Result` states that run with the three arrays named, at any float values, with every semaphore at zero;
* `Values` reads the result at exact arithmetic: the rows of the whole table that the indices name;
* `Lookup` reads the reference's result the same way, and the precondition.

Here they are put together. The two frames of the kernel are one run read at two kinds of float values.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.Pre_in_range_KernelIdeal
public import proofs.«01_k».proof.Proof.Gen.Pre_in_range_ReferenceIdeal
public import proofs.«01_k».proof.Proof.Result
public import proofs.«01_k».proof.Proof.Values
public import proofs.«01_k».proof.Proof.Lookup
public import Idealize.ShloMosaic.Lib.Quiescent

@[expose] public section

noncomputable section

namespace Cert.Proof

open Idealize.ShloMosaic Idealize.ShloMosaic.TcCoe Idealize.ShloMosaic.ValueIdx Idealize.SL.Sem

/-- The kernel as printed and the kernel read at exact arithmetic have the same body, -/
theorem body_eq {F : FTy → Type} [FloatOps F] : Cert.Kernel.defs₀ (F := F) = Cert.KernelIdeal.defs₀ (F := F) := by
  unfold Cert.Kernel.defs₀ Cert.KernelIdeal.defs₀
  refine congrArg Defs.onTc (funext fun l => funext fun a => ?_)
  match l, a with
  | 0, (t, s) =>
    show Cert.Kernel.cc0_body _ _ _ _ _ _ _ _ _ _ = Cert.KernelIdeal.cc0_body _ _ _ _ _ _ _ _ _ _
    rfl

/-- and so the same program. -/
theorem defs_eq {F : FTy → Type} [FloatOps F] : Cert.Kernel.defs (F := F) = Cert.KernelIdeal.defs (F := F) := by
  unfold Cert.Kernel.defs Cert.KernelIdeal.defs
  rw [body_eq]
  rfl

/-- The kernel as printed terminates without a fault from any memory, keeps its arguments, and leaves every semaphore at
    zero. -/
theorem frame_kernel : Cert.quiescent_Kernel := by
  intro m ρ _
  rw [defs_eq]
  exact Cert.Exchange.run_frame (F := Bits) m ρ

/-- The same of the kernel read at exact arithmetic. -/
theorem frame_ideal : Cert.quiescent_KernelIdeal := fun m ρ _ =>
  Cert.Exchange.run_frame (F := Ideal) m ρ

/-- The same of the reference, which has no semaphores. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- At exact arithmetic, where every index is from 0 to 8191: every device's result is the reference's. -/
theorem value : Cert.algebraic_KernelIdeal_ReferenceIdeal_pre_in_range_KernelIdeal := by
  intro m g m' g' hpre hin
  refine ⟨_, (θ_run Cert.KernelIdeal.defs _ _).mono (fun r h c => ⟨?_, (h.1 c).2⟩) (Cert.Exchange.run_read (F := Ideal) m g),
    (θ_run Cert.ReferenceIdeal.defs _ _).mono (fun r h => h 0) (Cert.ReferenceIdeal.Value.run (F := Ideal) m' g')⟩
  have hI : ∀ j, ((m' (((0 : Dev Cert.ReferenceIdeal.nD).tc : Thread Cert.ReferenceIdeal.nD Cert.ReferenceIdeal.τ).loc
      Cert.ReferenceIdeal.main_arg1) : IVec Cert.ReferenceIdeal.S512 32) j).toNat < 8192 := fun j => by
    rw [← (hin 0).2]; exact Cert.Lookup.index_lt _ _ (hpre 0) j
  refine (h.1 c).1.trans (funext fun i => ?_)
  obtain ⟨j, d, rfl⟩ : ∃ (j : Fin 512) (d : Fin 256), i = ix2 j d := ⟨i 0, i 1, eq_ix2 i⟩
  exact (Cert.Exchange.outAt_eq _ _ _ _ (fun c => (hin c).1) (fun c => (hin c).2) hI c j d).trans
    (Cert.Lookup.lookup_apply _ _ hI j d).symm

theorem claim : Cert.Claim :=
  ⟨Cert.Kernel.Gen.facts, Cert.KernelIdeal.Gen.facts, Cert.ReferenceIdeal.Gen.facts, Cert.Pre_in_range_KernelIdeal.Gen.facts,
    Cert.Pre_in_range_ReferenceIdeal.Gen.facts, frame_kernel, frame_ideal, fun m ρ _ => frame_ideal m ρ trivial, frame_reference,
    fun m ρ _ => frame_reference m ρ trivial, trivial, value⟩

end Cert.Proof

end
